-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_capacity_KernelIdeal [hPre_within_capacity_KernelIdeal : Cert.Pre_within_capacity_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_capacity_ReferenceIdeal [hPre_within_capacity_ReferenceIdeal : Cert.Pre_within_capacity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_within_capacity_KernelIdeal [hKernelIdeal : Cert.KernelIdeal.Facts] [hPre_within_capacity_KernelIdeal : Cert.Pre_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_capacity_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_within_capacity_ReferenceIdeal [hReferenceIdeal : Cert.ReferenceIdeal.Facts] [hPre_within_capacity_ReferenceIdeal : Cert.Pre_within_capacity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_capacity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_within_capacity_KernelIdeal [hKernelIdeal : Cert.KernelIdeal.Facts] [hReferenceIdeal : Cert.ReferenceIdeal.Facts] [hPre_within_capacity_KernelIdeal : Cert.Pre_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_capacity_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![2048]⟩ ⟨1, ![4096]⟩ (Layout.meshBlock [2, 2, 2] ![[1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 1024, 2048]⟩ ⟨3, ![8, 1024, 2048]⟩ (Layout.meshBlock [2, 2, 2] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 2048, 1024]⟩ ⟨3, ![8, 2048, 1024]⟩ (Layout.meshBlock [2, 2, 2] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![2048, 1024]⟩ ⟨2, ![4096, 1024]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v96) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_within_capacity_KernelIdeal : Cert.Pre_within_capacity_KernelIdeal.Facts) (hPre_within_capacity_ReferenceIdeal : Cert.Pre_within_capacity_ReferenceIdeal.Facts),
    quiescent_Kernel (hKernel := hKernel)
    ∧ quiescent_KernelIdeal (hKernelIdeal := hKernelIdeal)
    ∧ quiescent_KernelIdeal_pre_within_capacity_KernelIdeal (hKernelIdeal := hKernelIdeal) (hPre_within_capacity_KernelIdeal := hPre_within_capacity_KernelIdeal)
    ∧ quiescent_ReferenceIdeal (hReferenceIdeal := hReferenceIdeal)
    ∧ quiescent_ReferenceIdeal_pre_within_capacity_ReferenceIdeal (hReferenceIdeal := hReferenceIdeal) (hPre_within_capacity_ReferenceIdeal := hPre_within_capacity_ReferenceIdeal)
    ∧ preserves_Kernel_KernelIdeal
    ∧ algebraic_KernelIdeal_ReferenceIdeal_pre_within_capacity_KernelIdeal (hKernelIdeal := hKernelIdeal) (hReferenceIdeal := hReferenceIdeal) (hPre_within_capacity_KernelIdeal := hPre_within_capacity_KernelIdeal)
-- ==== Pre_within_capacity_KernelIdeal.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S8x2048 : Shape := ⟨2, ![8, 2048]⟩
abbrev S1x2048 : Shape := ⟨2, ![1, 2048]⟩
abbrev S_ : Shape := ⟨0, ![]⟩
abbrev S8 : Shape := ⟨1, ![8]⟩
abbrev S8x1 : Shape := ⟨2, ![8, 1]⟩

class Facts : Prop where
  bcast_S2048_S1x2048_1 : S2048.BroadcastsInDim S1x2048 (![1] : Fin 1 → Fin S1x2048.rank)
  bcast_S1x2048_S8x2048_0_1 : S1x2048.BroadcastsInDim S8x2048 (![0, 1] : Fin 2 → Fin S8x2048.rank)
  natLt_1_32 : 1 < 32
  reducesTo_S8x2048_S8_d1 : S8x2048.ReducesTo [1] S8
  h_S_ : 0 < S_.numel
  bcast_S8_S8x1_0 : S8.BroadcastsInDim S8x1 (![0] : Fin 1 → Fin S8x1.rank)
  bcast_S_S1x2048 : S_.BroadcastsInDim S1x2048 (![] : Fin 0 → Fin S1x2048.rank)
  bcast_S_S8x1 : S_.BroadcastsInDim S8x1 (![] : Fin 0 → Fin S8x1.rank)
  bcast_S8x1_S8x2048_0_1 : S8x1.BroadcastsInDim S8x2048 (![0, 1] : Fin 2 → Fin S8x2048.rank)

variable [Facts]

def fn {F : FTy → Type} [FloatOps F] (main_arg0 : FVec F S2048x1024 .f32) (main_arg1 : IVec S2048 32) (main_arg2 : FVec F S4x1024x2048 .f32) (main_arg3 : FVec F S4x2048x1024 .f32) : IVec S8x2048 1 :=
  let main_v0 : IVec S8x2048 32 := iotaInDim S8x2048 32 0
  let main_v1 : IVec S1x2048 32 := broadcastInDim S1x2048 ![1] bcast_S2048_S1x2048_1 main_arg1
  let main_v2 : IVec S8x2048 32 := broadcastInDim S8x2048 ![0, 1] bcast_S1x2048_S8x2048_0_1 main_v1
  let main_v3 : IVec S8x2048 1 := cmpi .eq main_v2 main_v0
  let main_v4 : IVec S8x2048 32 := (extui 32 · natLt_1_32) main_v3
  let main_c : IVec S_ 32 := constantI S_ 32 0#32
  let main_v5 : IVec S8 32 := (fun x v => Host.reduce IntOp.addi x v reducesTo_S8x2048_S8_d1 h_S_) main_v4 main_c
  let main_v6 : IVec S8x1 32 := broadcastInDim S8x1 ![0] bcast_S8_S8x1_0 main_v5
  let main_v7 : IVec S1x2048 32 := broadcastInDim S1x2048 ![1] bcast_S2048_S1x2048_1 main_arg1
  let main_c_0 : IVec S_ 32 := constantI S_ 32 0#32
  let main_v8 : IVec S1x2048 32 := broadcastInDim S1x2048 ![] bcast_S_S1x2048 main_c_0
  let main_v9 : IVec S1x2048 1 := cmpi .sge main_v7 main_v8
  let main_v10 : IVec S1x2048 32 := broadcastInDim S1x2048 ![1] bcast_S2048_S1x2048_1 main_arg1
  let main_c_1 : IVec S_ 32 := constantI S_ 32 8#32
  let main_v11 : IVec S1x2048 32 := broadcastInDim S1x2048 ![] bcast_S_S1x2048 main_c_1
  let main_v12 : IVec S1x2048 1 := cmpi .slt main_v10 main_v11
  let main_v13 : IVec S1x2048 1 := andi main_v9 main_v12
  let main_c_2 : IVec S_ 32 := constantI S_ 32 288#32
  let main_v14 : IVec S8x1 32 := broadcastInDim S8x1 ![] bcast_S_S8x1 main_c_2
  let main_v15 : IVec S8x1 1 := cmpi .sle main_v6 main_v14
  let main_v16 : IVec S8x2048 1 := broadcastInDim S8x2048 ![0, 1] bcast_S1x2048_S8x2048_0_1 main_v13
  let main_v17 : IVec S8x2048 1 := broadcastInDim S8x2048 ![0, 1] bcast_S8x1_S8x2048_0_1 main_v15
  let main_v18 : IVec S8x2048 1 := andi main_v16 main_v17
  main_v18
-- ==== Pre_within_capacity_ReferenceIdeal.lean ====
abbrev S4096x1024 : Shape := ⟨2, ![4096, 1024]⟩
abbrev S4096 : Shape := ⟨1, ![4096]⟩
abbrev S8x1024x2048 : Shape := ⟨3, ![8, 1024, 2048]⟩
abbrev S8x2048x1024 : Shape := ⟨3, ![8, 2048, 1024]⟩
abbrev S8x4096 : Shape := ⟨2, ![8, 4096]⟩
abbrev S1x4096 : Shape := ⟨2, ![1, 4096]⟩
abbrev S_ : Shape := ⟨0, ![]⟩
abbrev S8 : Shape := ⟨1, ![8]⟩
abbrev S8x1 : Shape := ⟨2, ![8, 1]⟩

class Facts : Prop where
  bcast_S4096_S1x4096_1 : S4096.BroadcastsInDim S1x4096 (![1] : Fin 1 → Fin S1x4096.rank)
  bcast_S1x4096_S8x4096_0_1 : S1x4096.BroadcastsInDim S8x4096 (![0, 1] : Fin 2 → Fin S8x4096.rank)
  natLt_1_32 : 1 < 32
  reducesTo_S8x4096_S8_d1 : S8x4096.ReducesTo [1] S8
  h_S_ : 0 < S_.numel
  bcast_S8_S8x1_0 : S8.BroadcastsInDim S8x1 (![0] : Fin 1 → Fin S8x1.rank)
  bcast_S_S1x4096 : S_.BroadcastsInDim S1x4096 (![] : Fin 0 → Fin S1x4096.rank)
  bcast_S_S8x1 : S_.BroadcastsInDim S8x1 (![] : Fin 0 → Fin S8x1.rank)
  bcast_S8x1_S8x4096_0_1 : S8x1.BroadcastsInDim S8x4096 (![0, 1] : Fin 2 → Fin S8x4096.rank)

variable [Facts]

def fn {F : FTy → Type} [FloatOps F] (main_arg0 : FVec F S4096x1024 .f32) (main_arg1 : IVec S4096 32) (main_arg2 : FVec F S8x1024x2048 .f32) (main_arg3 : FVec F S8x2048x1024 .f32) : IVec S8x4096 1 :=
  let main_v0 : IVec S8x4096 32 := iotaInDim S8x4096 32 0
  let main_v1 : IVec S1x4096 32 := broadcastInDim S1x4096 ![1] bcast_S4096_S1x4096_1 main_arg1
  let main_v2 : IVec S8x4096 32 := broadcastInDim S8x4096 ![0, 1] bcast_S1x4096_S8x4096_0_1 main_v1
  let main_v3 : IVec S8x4096 1 := cmpi .eq main_v2 main_v0
  let main_v4 : IVec S8x4096 32 := (extui 32 · natLt_1_32) main_v3
  let main_c : IVec S_ 32 := constantI S_ 32 0#32
  let main_v5 : IVec S8 32 := (fun x v => Host.reduce IntOp.addi x v reducesTo_S8x4096_S8_d1 h_S_) main_v4 main_c
  let main_v6 : IVec S8x1 32 := broadcastInDim S8x1 ![0] bcast_S8_S8x1_0 main_v5
  let main_v7 : IVec S1x4096 32 := broadcastInDim S1x4096 ![1] bcast_S4096_S1x4096_1 main_arg1
  let main_c_0 : IVec S_ 32 := constantI S_ 32 0#32
  let main_v8 : IVec S1x4096 32 := broadcastInDim S1x4096 ![] bcast_S_S1x4096 main_c_0
  let main_v9 : IVec S1x4096 1 := cmpi .sge main_v7 main_v8
  let main_v10 : IVec S1x4096 32 := broadcastInDim S1x4096 ![1] bcast_S4096_S1x4096_1 main_arg1
  let main_c_1 : IVec S_ 32 := constantI S_ 32 8#32
  let main_v11 : IVec S1x4096 32 := broadcastInDim S1x4096 ![] bcast_S_S1x4096 main_c_1
  let main_v12 : IVec S1x4096 1 := cmpi .slt main_v10 main_v11
  let main_v13 : IVec S1x4096 1 := andi main_v9 main_v12
  let main_c_2 : IVec S_ 32 := constantI S_ 32 288#32
  let main_v14 : IVec S8x1 32 := broadcastInDim S8x1 ![] bcast_S_S8x1 main_c_2
  let main_v15 : IVec S8x1 1 := cmpi .sle main_v6 main_v14
  let main_v16 : IVec S8x4096 1 := broadcastInDim S8x4096 ![0, 1] bcast_S1x4096_S8x4096_0_1 main_v13
  let main_v17 : IVec S8x4096 1 := broadcastInDim S8x4096 ![0, 1] bcast_S8x1_S8x4096_0_1 main_v15
  let main_v18 : IVec S8x4096 1 := andi main_v16 main_v17
  main_v18
-- ==== Kernel.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S1x2048 : Shape := ⟨2, ![1, 2048]⟩
abbrev S4x288x1024 : Shape := ⟨3, ![4, 288, 1024]⟩
abbrev S2x1024x1024 : Shape := ⟨3, ![2, 1024, 1024]⟩
abbrev S4 : Shape := ⟨1, ![4]⟩
abbrev S2 : Shape := ⟨1, ![2]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S8x2048 : Shape := ⟨2, ![8, 2048]⟩
abbrev S8x1 : Shape := ⟨2, ![8, 1]⟩
abbrev S8x2047 : Shape := ⟨2, ![8, 2047]⟩
abbrev S8x2 : Shape := ⟨2, ![8, 2]⟩
abbrev S8x2046 : Shape := ⟨2, ![8, 2046]⟩
abbrev S8x4 : Shape := ⟨2, ![8, 4]⟩
abbrev S8x2044 : Shape := ⟨2, ![8, 2044]⟩
abbrev S8x8 : Shape := ⟨2, ![8, 8]⟩
abbrev S8x2040 : Shape := ⟨2, ![8, 2040]⟩
abbrev S8x16 : Shape := ⟨2, ![8, 16]⟩
abbrev S8x2032 : Shape := ⟨2, ![8, 2032]⟩
abbrev S8x32 : Shape := ⟨2, ![8, 32]⟩
abbrev S8x2016 : Shape := ⟨2, ![8, 2016]⟩
abbrev S8x64 : Shape := ⟨2, ![8, 64]⟩
abbrev S8x1984 : Shape := ⟨2, ![8, 1984]⟩
abbrev S8x128 : Shape := ⟨2, ![8, 128]⟩
abbrev S8x1920 : Shape := ⟨2, ![8, 1920]⟩
abbrev S8x256 : Shape := ⟨2, ![8, 256]⟩
abbrev S8x1792 : Shape := ⟨2, ![8, 1792]⟩
abbrev S8x512 : Shape := ⟨2, ![8, 512]⟩
abbrev S8x1536 : Shape := ⟨2, ![8, 1536]⟩
abbrev S8x1024 : Shape := ⟨2, ![8, 1024]⟩
abbrev S288x2048 : Shape := ⟨2, ![288, 2048]⟩
abbrev S288x1024 : Shape := ⟨2, ![288, 1024]⟩
abbrev S1x288x1024 : Shape := ⟨3, ![1, 288, 1024]⟩
abbrev S1152x1024 : Shape := ⟨2, ![1152, 1024]⟩
abbrev S512x1152 : Shape := ⟨2, ![512, 1152]⟩
abbrev S512 : Shape := ⟨1, ![512]⟩
abbrev S512x1 : Shape := ⟨2, ![512, 1]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S4x1024x2048, .f32⟩
  | .hbm, ⟨3, _⟩ => ⟨S4x2048x1024, .f32⟩
  | .hbm, ⟨4, _⟩ => ⟨S1x2048, .i32⟩
  | .hbm, ⟨5, _⟩ => ⟨S2048x1024, .f32⟩
  | .local _ .vmem, ⟨0, _⟩ => ⟨S1x2048, .i32⟩
  | .local _ .vmem, ⟨1, _⟩ => ⟨S2048x1024, .f32⟩
  | .local _ .vmem, ⟨2, _⟩ => ⟨S2048x1024, .f32⟩
  | .local _ .vmem, ⟨3, _⟩ => ⟨S4x288x1024, .bf16⟩
  | .local _ .vmem, ⟨4, _⟩ => ⟨S4x288x1024, .bf16⟩
  | .local _ .vmem, ⟨5, _⟩ => ⟨S4x288x1024, .bf16⟩
  | .local _ .vmem, ⟨6, _⟩ => ⟨S4x288x1024, .bf16⟩
  | .local _ .vmem, ⟨7, _⟩ => ⟨S4x288x1024, .bf16⟩
  | .local _ .vmem, ⟨8, _⟩ => ⟨S2x1024x1024, .f32⟩
  | .local _ .vmem, ⟨9, _⟩ => ⟨S2x1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v23 : BitVec 32 := Scalar.muli v2 c4_i32_18
  let v24 : BitVec 32 := Scalar.addi c0_i32_19 v23
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_20 : BitVec 32 := 2#32
  let v25 : BitVec 32 := Scalar.muli v9 c2_i32_20
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v27 : BitVec 32 := Scalar.muli v8 c1_i32_21
  let v28 : BitVec 32 := Scalar.addi v26 v27
  v28.toNat
def k0_dev2 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_59 : BitVec 32 := 4#32
  let v144 : BitVec 32 := Scalar.muli v2 c4_i32_59
  let v145 : BitVec 32 := Scalar.addi c0_i32_60 v144
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_61 : BitVec 32 := 2#32
  let v146 : BitVec 32 := Scalar.muli v9 c2_i32_61
  let v147 : BitVec 32 := Scalar.addi v145 v146
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_62 : BitVec 32 := 1#32
  let v148 : BitVec 32 := Scalar.muli v8 c1_i32_62
  let v149 : BitVec 32 := Scalar.addi v147 v148
  v149.toNat
def k0_dev3 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_75 : BitVec 32 := 4#32
  let v172 : BitVec 32 := Scalar.muli v2 c4_i32_75
  let v173 : BitVec 32 := Scalar.addi c0_i32_76 v172
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_77 : BitVec 32 := 2#32
  let v174 : BitVec 32 := Scalar.muli v9 c2_i32_77
  let v175 : BitVec 32 := Scalar.addi v173 v174
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_78 : BitVec 32 := 1#32
  let v176 : BitVec 32 := Scalar.muli v8 c1_i32_78
  let v177 : BitVec 32 := Scalar.addi v175 v176
  v177.toNat
def k0_dev4 (d0 : Dev nD) : Nat :=
  let c0_i32_91 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_90 : BitVec 32 := 4#32
  let v200 : BitVec 32 := Scalar.muli v2 c4_i32_90
  let v201 : BitVec 32 := Scalar.addi c0_i32_91 v200
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_92 : BitVec 32 := 2#32
  let v202 : BitVec 32 := Scalar.muli v9 c2_i32_92
  let v203 : BitVec 32 := Scalar.addi v201 v202
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_93 : BitVec 32 := 1#32
  let v204 : BitVec 32 := Scalar.muli v8 c1_i32_93
  let v205 : BitVec 32 := Scalar.addi v203 v204
  v205.toNat
def k0_dev5 (d0 : Dev nD) : Nat :=
  let c0_i32_105 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_104 : BitVec 32 := 4#32
  let v228 : BitVec 32 := Scalar.muli v2 c4_i32_104
  let v229 : BitVec 32 := Scalar.addi c0_i32_105 v228
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_106 : BitVec 32 := 2#32
  let v230 : BitVec 32 := Scalar.muli v9 c2_i32_106
  let v231 : BitVec 32 := Scalar.addi v229 v230
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v232 : BitVec 32 := Scalar.muli v8 c1_i32_107
  let v233 : BitVec 32 := Scalar.addi v231 v232
  v233.toNat
def k0_dev6 (d0 : Dev nD) : Nat :=
  let c0_i32_218 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_217 : BitVec 32 := 4#32
  let v353 : BitVec 32 := Scalar.muli v2 c4_i32_217
  let v354 : BitVec 32 := Scalar.addi c0_i32_218 v353
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_219 : BitVec 32 := 2#32
  let v355 : BitVec 32 := Scalar.muli v9 c2_i32_219
  let v356 : BitVec 32 := Scalar.addi v354 v355
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_220 : BitVec 32 := 1#32
  let v357 : BitVec 32 := Scalar.muli v8 c1_i32_220
  let v358 : BitVec 32 := Scalar.addi v356 v357
  v358.toNat
def k0_dev7 (d0 : Dev nD) : Nat :=
  let c0_i32_335 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_334 : BitVec 32 := 4#32
  let v482 : BitVec 32 := Scalar.muli v2 c4_i32_334
  let v483 : BitVec 32 := Scalar.addi c0_i32_335 v482
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_336 : BitVec 32 := 2#32
  let v484 : BitVec 32 := Scalar.muli v9 c2_i32_336
  let v485 : BitVec 32 := Scalar.addi v483 v484
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_337 : BitVec 32 := 1#32
  let v486 : BitVec 32 := Scalar.muli v8 c1_i32_337
  let v487 : BitVec 32 := Scalar.addi v485 v486
  v487.toNat
def k0_dev8 (d0 : Dev nD) : Nat :=
  let c0_i32_452 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_451 : BitVec 32 := 4#32
  let v611 : BitVec 32 := Scalar.muli v2 c4_i32_451
  let v612 : BitVec 32 := Scalar.addi c0_i32_452 v611
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_453 : BitVec 32 := 2#32
  let v613 : BitVec 32 := Scalar.muli v9 c2_i32_453
  let v614 : BitVec 32 := Scalar.addi v612 v613
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_454 : BitVec 32 := 1#32
  let v615 : BitVec 32 := Scalar.muli v8 c1_i32_454
  let v616 : BitVec 32 := Scalar.addi v614 v615
  v616.toNat
def k0_dev9 (d0 : Dev nD) : Nat :=
  let c0_i32_555 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_554 : BitVec 32 := 4#32
  let v728 : BitVec 32 := Scalar.muli v2 c4_i32_554
  let v729 : BitVec 32 := Scalar.addi c0_i32_555 v728
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_556 : BitVec 32 := 2#32
  let v730 : BitVec 32 := Scalar.muli v9 c2_i32_556
  let v731 : BitVec 32 := Scalar.addi v729 v730
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_557 : BitVec 32 := 1#32
  let v732 : BitVec 32 := Scalar.muli v8 c1_i32_557
  let v733 : BitVec 32 := Scalar.addi v731 v732
  v733.toNat
abbrev stage0_0 : Fin 1 → Memref sig .tc .vmem S1x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x1024 : Shape := ⟨2, ![4096, 1024]⟩
abbrev S4096 : Shape := ⟨1, ![4096]⟩
abbrev S8x1024x2048 : Shape := ⟨3, ![8, 1024, 2048]⟩
abbrev S8x2048x1024 : Shape := ⟨3, ![8, 2048, 1024]⟩
abbrev S_ : Shape := ⟨0, ![]⟩
abbrev S1x1024x2048 : Shape := ⟨3, ![1, 1024, 2048]⟩
abbrev S1024x2048 : Shape := ⟨2, ![1024, 2048]⟩
abbrev S4096x2048 : Shape := ⟨2, ![4096, 2048]⟩
abbrev S4096x1 : Shape := ⟨2, ![4096, 1]⟩
abbrev S1x2048x1024 : Shape := ⟨3, ![1, 2048, 1024]⟩
abbrev S2048x1024 : Shape := ⟨2, ![2048, 1024]⟩

abbrev nBuf : Space → Nat
  | .hbm => 126
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S8x1024x2048, .f32⟩
  | .hbm, ⟨3, _⟩ => ⟨S8x2048x1024, .f32⟩
  | .hbm, ⟨4, _⟩ => ⟨S_, .f32⟩
  | .hbm, ⟨5, _⟩ => ⟨S4096x1024, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S1x1024x2048, .f32⟩
  | .hbm, ⟨10, _⟩ => ⟨S1024x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x1, .i1⟩
  | .hbm, ⟨16, _⟩ => ⟨S1x2048x1024, .f32⟩
  | .hbm, ⟨17, _⟩ => ⟨S2048x1024, .f32⟩
  | .hbm, ⟨18, _⟩ => ⟨S4096x1024, .f32⟩
  | .hbm, ⟨19, _⟩ => ⟨S4096x1024, .i1⟩
  | .hbm, ⟨20, _⟩ => ⟨S4096x1024, .f32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S1x1024x2048, .f32⟩
  | .hbm, ⟨25, _⟩ => ⟨S1024x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x1, .i1⟩
  | .hbm, ⟨31, _⟩ => ⟨S1x2048x1024, .f32⟩
  | .hbm, ⟨32, _⟩ => ⟨S2048x1024, .f32⟩
  | .hbm, ⟨33, _⟩ => ⟨S4096x1024, .f32⟩
  | .hbm, ⟨34, _⟩ => ⟨S4096x1024, .i1⟩
  | .hbm, ⟨35, _⟩ => ⟨S4096x1024, .f32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S1x1024x2048, .f32⟩
  | .hbm, ⟨40, _⟩ => ⟨S1024x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S4096x1, .i1⟩
  | .hbm, ⟨46, _⟩ => ⟨S1x2048x1024, .f32⟩
  | .hbm, ⟨47, _⟩ => ⟨S2048x1024, .f32⟩
  | .hbm, ⟨48, _⟩ => ⟨S4096x1024, .f32⟩
  | .hbm, ⟨49, _⟩ => ⟨S4096x1024, .i1⟩
  | .hbm, ⟨50, _⟩ => ⟨S4096x1024, .f32⟩
  | .hbm, ⟨51, _⟩ => ⟨S_, .i32⟩
  | .hbm, ⟨52, _⟩ => ⟨S4096, .i32⟩
  | .hbm, ⟨53, _⟩ => ⟨S4096, .i1⟩
  | .hbm, ⟨54, _⟩ => ⟨S1x1024x2048, .f32⟩
  | .hbm, ⟨55, _⟩ => ⟨S1024x2048, .f32⟩
  | .hbm, ⟨56, _⟩ => ⟨S4096x2048, .f32⟩
  | .hbm, ⟨57, _⟩ => ⟨S_, .f32⟩
  | .hbm, ⟨58, _⟩ => ⟨S4096x2048, .f32⟩
  | .hbm, ⟨59, _⟩ => ⟨S4096x2048, .f32⟩
  | .hbm, ⟨60, _⟩ => ⟨S4096x1, .i1⟩
  | .hbm, ⟨61, _⟩ => ⟨S1x2048x1024, .f32⟩
  | .hbm, ⟨62, _⟩ => ⟨S2048x1024, .f32⟩
  | .hbm, ⟨63, _⟩ => ⟨S4096x1024, .f32⟩
  | .hbm, ⟨64, _⟩ => ⟨S4096x1024, .i1⟩
  | .hbm, ⟨65, _⟩ => ⟨S4096x1024, .f32⟩
  | .hbm, ⟨66, _⟩ => ⟨S_, .i32⟩
  | .hbm, ⟨67, _⟩ => ⟨S4096, .i32⟩
  | .hbm, ⟨68, _⟩ => ⟨S4096, .i1⟩
  | .hbm, ⟨69, _⟩ => ⟨S1x1024x2048, .f32⟩
  | .hbm, ⟨70, _⟩ => ⟨S1024x2048, .f32⟩
  | .hbm, ⟨71, _⟩ => ⟨S4096x2048, .f32⟩
  | .hbm, ⟨72, _⟩ => ⟨S_, .f32⟩
  | .hbm, ⟨73, _⟩ => ⟨S4096x2048, .f32⟩
  | .hbm, ⟨74, _⟩ => ⟨S4096x2048, .f32⟩
  | .hbm, ⟨75, _⟩ => ⟨S4096x1, .i1⟩
  | .hbm, ⟨76, _⟩ => ⟨S1x2048x1024, .f32⟩
  | .hbm, ⟨77, _⟩ => ⟨S2048x1024, .f32⟩
  | .hbm, ⟨78, _⟩ => ⟨S4096x1024, .f32⟩
  | .hbm, ⟨79, _⟩ => ⟨S4096x1024, .i1⟩
  | .hbm, ⟨80, _⟩ => ⟨S4096x1024, .f32⟩
  | .hbm, ⟨81, _⟩ => ⟨S_, .i32⟩
  | .hbm, ⟨82, _⟩ => ⟨S4096, .i32⟩
  | .hbm, ⟨83, _⟩ => ⟨S4096, .i1⟩
  | .hbm, ⟨84, _⟩ => ⟨S1x1024x2048, .f32⟩
  | .hbm, ⟨85, _⟩ => ⟨S1024x2048, .f32⟩
  | .hbm, ⟨86, _⟩ => ⟨S4096x2048, .f32⟩
  | .hbm, ⟨87, _⟩ => ⟨S_, .f32⟩
  | .hbm, ⟨88, _⟩ => ⟨S4096x2048, .f32⟩
  | .hbm, ⟨89, _⟩ => ⟨S4096x2048, .f32⟩
  | .hbm, ⟨90, _⟩ => ⟨S4096x1, .i1⟩
  | .hbm, ⟨91, _⟩ => ⟨S1x2048x1024, .f32⟩
  | .hbm, ⟨92, _⟩ => ⟨S2048x1024, .f32⟩
  | .hbm, ⟨93, _⟩ => ⟨S4096x1024, .f32⟩
  | .hbm, ⟨94, _⟩ => ⟨S4096x1024, .i1⟩
  | .hbm, ⟨95, _⟩ => ⟨S4096x1024, .f32⟩
  | .hbm, ⟨96, _⟩ => ⟨S_, .i32⟩
  | .hbm, ⟨97, _⟩ => ⟨S4096, .i32⟩
  | .hbm, ⟨98, _⟩ => ⟨S4096, .i1⟩
  | .hbm, ⟨99, _⟩ => ⟨S1x1024x2048, .f32⟩
  | .hbm, ⟨100, _⟩ => ⟨S1024x2048, .f32⟩
  | .hbm, ⟨101, _⟩ => ⟨S4096x2048, .f32⟩
  | .hbm, ⟨102, _⟩ => ⟨S_, .f32⟩
  | .hbm, ⟨103, _⟩ => ⟨S4096x2048, .f32⟩
  | .hbm, ⟨104, _⟩ => ⟨S4096x2048, .f32⟩
  | .hbm, ⟨105, _⟩ => ⟨S4096x1, .i1⟩
  | .hbm, ⟨106, _⟩ => ⟨S1x2048x1024, .f32⟩
  | .hbm, ⟨107, _⟩ => ⟨S2048x1024, .f32⟩
  | .hbm, ⟨108, _⟩ => ⟨S4096x1024, .f32⟩
  | .hbm, ⟨109, _⟩ => ⟨S4096x1024, .i1⟩
  | .hbm, ⟨110, _⟩ => ⟨S4096x1024, .f32⟩
  | .hbm, ⟨111, _⟩ => ⟨S_, .i32⟩
  | .hbm, ⟨112, _⟩ => ⟨S4096, .i32⟩
  | .hbm, ⟨113, _⟩ => ⟨S4096, .i1⟩
  | .hbm, ⟨114, _⟩ => ⟨S1x1024x2048, .f32⟩
  | .hbm, ⟨115, _⟩ => ⟨S1024x2048, .f32⟩
  | .hbm, ⟨116, _⟩ => ⟨S4096x2048, .f32⟩
  | .hbm, ⟨117, _⟩ => ⟨S_, .f32⟩
  | .hbm, ⟨118, _⟩ => ⟨S4096x2048, .f32⟩
  | .hbm, ⟨119, _⟩ => ⟨S4096x2048, .f32⟩
  | .hbm, ⟨120, _⟩ => ⟨S4096x1, .i1⟩
  | .hbm, ⟨121, _⟩ => ⟨S1x2048x1024, .f32⟩
  | .hbm, ⟨122, _⟩ => ⟨S2048x1024, .f32⟩
  | .hbm, ⟨123, _⟩ => ⟨S4096x1024, .f32⟩
  | .hbm, ⟨124, _⟩ => ⟨S4096x1024, .i1⟩
  | .hbm, ⟨125, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_v0 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call3_v0 : Ref sig .tc := ⟨.hbm, 64, rfl⟩
abbrev main_v48 : Ref sig .tc := ⟨.hbm, 65, rfl⟩
abbrev main_c_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call4_v0 : Ref sig .tc := ⟨.hbm, 79, rfl⟩
abbrev main_v60 : Ref sig .tc := ⟨.hbm, 80, rfl⟩
abbrev main_c_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call5_v0 : Ref sig .tc := ⟨.hbm, 94, rfl⟩
abbrev main_v72 : Ref sig .tc := ⟨.hbm, 95, rfl⟩
abbrev main_c_11 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_12 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_call6_v0 : Ref sig .tc := ⟨.hbm, 109, rfl⟩
abbrev main_v84 : Ref sig .tc := ⟨.hbm, 110, rfl⟩
abbrev main_c_13 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_14 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_call7_v0 : Ref sig .tc := ⟨.hbm, 124, rfl⟩
abbrev main_v96 : Ref sig .tc := ⟨.hbm, 125, rfl⟩

abbrev nD : Nat := 1
abbrev τ : Topo := Topo.v7x

variable {F : FTy → Type} [FloatOps F]
-- ==== Proof.KernelIdeal.Vals.lean ====
/- What the kernel's body computes on one device, as functions of what the device holds: the routing words of its own
   assignment row, the four token slabs it sends, the four slabs it computes for itself, the four it sends back, and
   the output block. Nothing here speaks of memory: these are the values the protocol's payloads carry. -/
module

public import proofs.«01_k».proof.Proof.Gen.KernelIdeal.Skeleton
public import Idealize.ShloMosaic.Lib.ValueIdxCore

@[expose] public section

noncomputable section

namespace Cert.KernelIdeal.Moe

open Idealize.ShloMosaic Idealize.ShloMosaic.ValueIdx Idealize.SL Idealize.SL.Sem
open Cert.KernelIdeal.Gen

variable {F : FTy → Type} [FloatOps F]

/-- Four slabs of 288 rows as one array of four slabs. -/
def stack (v : Fin 4 → Vec F S1x288x1024 .bf16) : Vec F S4x288x1024 .bf16 :=
  fun j => v (j 0) (ix3 0 (j 1) (j 2))

/-- Two weight tiles as one array of two tiles. -/
def pair (v : Fin 2 → Vec F S1x1024x1024 .f32) : Vec F S2x1024x1024 .f32 :=
  fun j => v (j 0) (ix3 0 (j 1) (j 2))

/-- Half `h` of the hidden columns of expert `e`'s first weight. -/
def w1Tile (w : Vec F S4x1024x2048 .f32) (e : Fin 4) (h : Fin 2) : Vec F S1x1024x1024 .f32 :=
  fun j => w (ix3 e (j 1) ⟨1024 * h.val + (j 2).val, by have := (j 2).isLt; have := h.isLt; change _ < 1024 at *; omega⟩)

/-- Half `h` of the hidden rows of expert `e`'s second weight. -/
def w2Tile (w : Vec F S4x2048x1024 .f32) (e : Fin 4) (h : Fin 2) : Vec F S1x1024x1024 .f32 :=
  fun j => w (ix3 e ⟨1024 * h.val + (j 1).val, by have := (j 1).isLt; have := h.isLt; change _ < 1024 at *; omega⟩ (j 2))

/-- Which half of the mesh's second axis a device lies in, as the kernel's word for it. -/
def myWord (c : Dev nD) : BitVec 32 := Scalar.remsi (Scalar.divsi (Dev.word c) 2#32) 2#32

/-- The first expert of the peer, as the kernel's word for it. -/
def theirsBase (my : BitVec 32) : BitVec 32 := Scalar.muli 4#32 (Scalar.subi 1#32 my)

/-- Per token, its row among the slabs sent to the peer (or a row no slab has). -/
def stv (my : BitVec 32) (a : Vec F S1x2048 .i32) : IVec S2048 32 :=
  k0_pay8 (k0_pay1 a) (k0_pay5 (k0_pay2 a) (k0_pay3 a) (k0_pay4 a)) (k0_pay6 my (k0_pay1 a)) (theirsBase my)

/-- Per token, its row among the slabs the device keeps (or a row no slab has). -/
def smv (my : BitVec 32) (a : Vec F S1x2048 .i32) : IVec S2048 32 :=
  k0_pay7 my (k0_pay1 a) (k0_pay2 a) (k0_pay3 a) (k0_pay4 a)

/-- The four slabs of tokens sent to the peer. -/
def theirsV (my : BitVec 32) (a : Vec F S1x2048 .i32) (x : Vec F S2048x1024 .f32) : Fin 4 → Vec F S1x288x1024 .bf16
  | ⟨0, _⟩ => k0_pay10 (k0_pay1 a) (k0_pay5 (k0_pay2 a) (k0_pay3 a) (k0_pay4 a)) (k0_pay6 my (k0_pay1 a)) (theirsBase my) x
  | ⟨1, _⟩ => k0_pay11 (stv my a) (k0_pay9 x)
  | ⟨2, _⟩ => k0_pay13 (k0_pay12 (stv my a) (k0_pay9 x))
  | ⟨_ + 3, _⟩ => k0_pay14 (stv my a) (k0_pay9 x)

/-- The four slabs of results for the device's own tokens. -/
def mineV (my : BitVec 32) (a : Vec F S1x2048 .i32) (x : Vec F S2048x1024 .f32) (w1 : Vec F S4x1024x2048 .f32)
    (w2 : Vec F S4x2048x1024 .f32) : Fin 4 → Vec F S1x288x1024 .bf16
  | ⟨0, _⟩ => k0_pay28 (k0_pay25 (k0_pay15 (smv my a) (k0_pay9 x))
      (k0_pay20 (k0_pay15 (smv my a) (k0_pay9 x)) k0_pay17 (w1Tile w1 0 0) (w2Tile w2 0 0)) (w1Tile w1 0 1) (w2Tile w2 0 1))
  | ⟨1, _⟩ => k0_pay41 (k0_pay34 (k0_pay29 (smv my a) (k0_pay9 x)) k0_pay31 (k0_pay32 (w1Tile w1 1 0)) (w2Tile w2 1 0))
      (k0_pay38 (w2Tile w2 1 1)) (k0_pay39 (k0_pay29 (smv my a) (k0_pay9 x)) (w1Tile w1 1 1)) (Scalar.ofBits .f32 0x00000000#32)
  | ⟨2, _⟩ => k0_pay54 (k0_pay52 (k0_pay42 (smv my a) (k0_pay9 x) (iota .tc S288x2048 32 [0] iota_S288x2048_d0_w32) 576#32)
      (k0_pay47 (k0_pay42 (smv my a) (k0_pay9 x) (iota .tc S288x2048 32 [0] iota_S288x2048_d0_w32) 576#32) k0_pay44 (w1Tile w1 2 0) (w2Tile w2 2 0))
      (w1Tile w1 2 1) (w2Tile w2 2 1))
  | ⟨_ + 3, _⟩ => k0_pay67 (k0_pay66 (k0_pay55 (smv my a) (k0_pay9 x))
      (k0_pay60 (k0_pay55 (smv my a) (k0_pay9 x)) k0_pay57 (w1Tile w1 3 0) (w2Tile w2 3 0)) (k0_pay63 (w1Tile w1 3 1)) (w2Tile w2 3 1))

/-- The four slabs of results for the tokens received in the slabs `r`, sent back to the peer. -/
def backV (r : Fin 4 → Vec F S1x288x1024 .bf16) (w1 : Vec F S4x1024x2048 .f32) (w2 : Vec F S4x2048x1024 .f32) :
    Fin 4 → Vec F S1x288x1024 .bf16
  | ⟨0, _⟩ => k0_pay27 (k0_pay26 (k0_pay21 (r 0)) (k0_pay22 k0_pay16 (k0_pay18 (w1Tile w1 0 0)) (k0_pay19 (w2Tile w2 0 0)) (r 0))
      (w1Tile w1 0 1) (w2Tile w2 0 1))
  | ⟨1, _⟩ => k0_pay40 (k0_pay35 (r 1)) (k0_pay36 k0_pay30 (k0_pay32 (w1Tile w1 1 0)) (w2Tile w2 1 0) (r 1))
      (k0_pay37 (w1Tile w1 1 1)) (k0_pay38 (w2Tile w2 1 1))
  | ⟨2, _⟩ => k0_pay53 (k0_pay48 (r 2)) (k0_pay49 k0_pay43 (k0_pay45 (w1Tile w1 2 0)) (k0_pay46 (w2Tile w2 2 0)) (k0_pay48 (r 2)))
      (w1Tile w1 2 1) (w2Tile w2 2 1)
  | ⟨_ + 3, _⟩ => k0_pay65 (k0_pay61 (r 3)) (k0_pay62 k0_pay56 (k0_pay58 (w1Tile w1 3 0)) (k0_pay59 (w2Tile w2 3 0)) (r 3))
      (k0_pay63 (w1Tile w1 3 1)) (w2Tile w2 3 1)

/-- The column numbers of a 512 by 1152 array. -/
abbrev cols : IVec S512x1152 32 := iota .tc S512x1152 32 [1] iota_S512x1152_d1_w32

/-- The four quarters of the output block, from the device's own results `ym` and those sent back to it, `yb`. -/
def outV (my : BitVec 32) (a : Vec F S1x2048 .i32) (ym yb : Vec F S4x288x1024 .bf16) : Fin 4 → Vec F S512x1024 .f32
  | ⟨0, _⟩ => k0_pay76 (k0_pay73 yb) (k0_pay74 (stv my a) cols) (k0_pay75 (k0_pay69 (smv my a) ym))
  | ⟨1, _⟩ => k0_pay77 (stv my a) cols (k0_pay73 yb) (k0_pay70 (smv my a) ym)
  | ⟨2, _⟩ => k0_pay78 (stv my a) cols (k0_pay73 yb) (k0_pay71 (smv my a) ym)
  | ⟨_ + 3, _⟩ => k0_pay79 (stv my a) cols (k0_pay73 yb) (k0_pay72 (smv my a) ym)

/-- The output block from its quarters. -/
def outC (v : Fin 4 → Vec F S512x1024 .f32) : Vec F S2048x1024 .f32 :=
  fun j => v ⟨(j 0).val / 512, by have := (j 0).isLt; change _ < 2048 at this; omega⟩
    (ix2 ⟨(j 0).val % 512, Nat.mod_lt _ (by decide)⟩ (j 1))

end Cert.KernelIdeal.Moe

end
-- ==== Proof.KernelIdeal.Slabs.lean ====
/- The kernel's scratch buffers by slab: each four-slab buffer is held slab by slab, each two-tile weight buffer tile by
   tile, always at contents of the whole buffer of which only the slab's elements matter. A slab copied to the peer's
   buffer of the same shape keeps its contents, and the slabs of one buffer join to the whole buffer. -/
module

public import proofs.«01_k».proof.Proof.Gen.KernelIdeal.Frame
public import proofs.«01_k».proof.Proof.KernelIdeal.Vals
public import Idealize.ShloMosaic.Lib.Tactic
public import Idealize.ShloMosaic.Lib.VecWindow

@[expose] public section

noncomputable section

namespace Cert.KernelIdeal.Moe

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resource algebra -/

/-- The staging pipeline's rounds, the exchange's rounds, and the local copies' counters. -/
abbrev UU : Type := UR sig nD τ × (UR sig nD τ × Counters)

local notation "𝕄" => MT nD τ sig Unit (Elt F) ℕ UU ℕ

/-- The staging pipeline's copy of the rounds algebra. -/
abbrev EP : Emb (UR sig nD τ) (MT nD τ sig Unit (Elt F) ℕ UU ℕ) := embL
/-- The exchange's copy of the rounds algebra. -/
def ER : Emb (UR sig nD τ) (MT nD τ sig Unit (Elt F) ℕ UU ℕ) :=
  ((Emb.inl : Emb (UR sig nD τ) (UR sig nD τ × Counters)).trans (Emb.inr : Emb (UR sig nD τ × Counters) UU)).trans
    (uEmb (nD := nD) (sig := sig) (Ix := Unit) (Val := Elt F) (Name := ℕ) (U := UU) (Lvl := ℕ)).toEmb
instance ER_landsIn : (ER (F := F)).LandsIn (upEmb : UEmb _ 𝕄) := by unfold ER; infer_instance

/-! ## Buffers -/

abbrev aM : Memref sig .tc .vmem S1x2048 .i32 := Memref.whole cc0_stg0_0
abbrev xM : Memref sig .tc .vmem S2048x1024 .f32 := Memref.whole cc0_stg1_0
abbrev oM : Memref sig .tc .vmem S2048x1024 .f32 := Memref.whole cc0_stg2_0
abbrev w1M : Memref sig .tc .hbm S4x1024x2048 .f32 := Memref.whole main_arg2
abbrev w2M : Memref sig .tc .hbm S4x2048x1024 .f32 := Memref.whole main_arg3
abbrev sentM : Memref sig .tc .vmem S4x288x1024 .bf16 := Memref.whole cc0_scratch0
abbrev recvM : Memref sig .tc .vmem S4x288x1024 .bf16 := Memref.whole cc0_scratch1
abbrev retM : Memref sig .tc .vmem S4x288x1024 .bf16 := Memref.whole cc0_scratch2
abbrev backM : Memref sig .tc .vmem S4x288x1024 .bf16 := Memref.whole cc0_scratch3
abbrev mineM : Memref sig .tc .vmem S4x288x1024 .bf16 := Memref.whole cc0_scratch4
abbrev b1M : Memref sig .tc .vmem S2x1024x1024 .f32 := Memref.whole cc0_scratch5
abbrev b2M : Memref sig .tc .vmem S2x1024x1024 .f32 := Memref.whole cc0_scratch6

/-! ## Slabs -/

theorem inb_slab (i : Fin 4) : ∀ a : Fin S4x288x1024.rank, (![i.val, 0, 0] : Fin 3 → ℕ) a + S1x288x1024.size a ≤ S4x288x1024.size a := by
  revert i; decide

/-- Slab `i` of a four-slab buffer, as a rectangle. -/
abbrev slabRect (i : Fin 4) : Rect S4x288x1024 := Rect.unit (s := S4x288x1024) ![i.val, 0, 0] S1x288x1024.size (inb_slab i)

/-- Slab `i` as the memref the kernel copies through. -/
abbrev slab (M : Memref sig .tc .vmem S4x288x1024 .bf16) (i : Fin 4) : Memref sig .tc .vmem S288x1024 .bf16 :=
  (M.slice (slabRect i) (fun _ => rfl)).squeeze S288x1024 squeezes_S1x288x1024_S288x1024

/-- Buffer `M` of device `c` held at slab `i`, at contents `f`. -/
abbrev slabPts (M : Memref sig .tc .vmem S4x288x1024 .bf16) (c : Dev nD) (i : Fin 4) (f : Buf (Elt F) (M.view.loc (c : Thread nD τ))) : sProp 𝕄 :=
  M.view.loc (c : Thread nD τ) ↦[M.view.setOn (slabRect i).set]{fullShare} f

/-- The elements of the slab the kernel copies are the rectangle's. -/
theorem slab_set (M : Memref sig .tc .vmem S4x288x1024 .bf16) (i : Fin 4) : (slab M i).view.set = M.view.setOn (slabRect i).set := by
  unfold slab
  rw [Memref.set_view_squeeze]
  exact View.set_slice _ _

/-- Every element lies in the slab of its first coordinate. -/
theorem mem_slabRect (i : Fin 4) (x : S4x288x1024.Idx) : x ∈ (slabRect i).set ↔ x 0 = i := by
  rw [Rect.mem_set_unit]
  constructor
  · intro h
    have h0 : i.val ≤ (x 0 : ℕ) ∧ (x 0 : ℕ) < i.val + 1 := h 0
    exact Fin.ext (by omega)
  · intro h a
    match a with
    | ⟨0, _⟩ => show i.val ≤ (x 0 : ℕ) ∧ (x 0 : ℕ) < i.val + 1; rw [h]; omega
    | ⟨1, _⟩ => exact ⟨Nat.zero_le _, by show (x 1 : ℕ) < 0 + 288; have := (x 1).isLt; change _ < 288 at this; omega⟩
    | ⟨2, _⟩ => exact ⟨Nat.zero_le _, by show (x 2 : ℕ) < 0 + 1024; have := (x 2).isLt; change _ < 1024 at this; omega⟩

/-- Two slabs of a buffer share no element. -/
theorem slab_disjoint (M : Memref sig .tc .vmem S4x288x1024 .bf16) {i j : Fin 4} (h : i ≠ j) :
    Disjoint (M.view.setOn (slabRect i).set) (M.view.setOn (slabRect j).set) := by
  unfold View.setOn
  rw [Finset.disjoint_map, Finset.disjoint_left]
  intro x hi hj
  exact h (((mem_slabRect i x).mp hi).symm.trans ((mem_slabRect j x).mp hj))

/-- A whole four-slab buffer is its four slabs. -/
theorem slabs_split (M : Memref sig .tc .vmem S4x288x1024 .bf16) (hM : M.view.set = Finset.univ) (c : Dev nD) (f : Buf (Elt F) (M.view.loc (c : Thread nD τ))) :
    (M.view.loc (c : Thread nD τ) ↦{fullShare} f : sProp 𝕄)
      = iprop(slabPts M c 0 f ∗ slabPts M c 1 f ∗ slabPts M c 2 f ∗ slabPts M c 3 f) := by
  have hu : (Finset.univ : Finset M.view.ty.Idx)
      = M.view.setOn (slabRect 0).set ∪ (M.view.setOn (slabRect 1).set ∪ (M.view.setOn (slabRect 2).set ∪ M.view.setOn (slabRect 3).set)) := by
    rw [← hM]
    refine Finset.Subset.antisymm (fun y hy => ?_) (fun y _ => hM ▸ Finset.mem_univ y)
    obtain ⟨x, -, rfl⟩ := Finset.mem_map.mp hy
    have hk : x 0 = (0 : Fin 4) ∨ x 0 = (1 : Fin 4) ∨ x 0 = (2 : Fin 4) ∨ x 0 = (3 : Fin 4) := by
      have : ∀ k : Fin 4, k = 0 ∨ k = 1 ∨ k = 2 ∨ k = 3 := by decide
      exact this (x 0)
    have m (i : Fin 4) (h : x 0 = i) : M.view.emb x ∈ M.view.setOn (slabRect i).set :=
      M.view.mem_setOn.mpr ((mem_slabRect i x).mpr h)
    rcases hk with h | h | h | h
    · exact Finset.mem_union_left _ (m 0 h)
    · exact Finset.mem_union_right _ (Finset.mem_union_left _ (m 1 h))
    · exact Finset.mem_union_right _ (Finset.mem_union_right _ (Finset.mem_union_left _ (m 2 h)))
    · exact Finset.mem_union_right _ (Finset.mem_union_right _ (Finset.mem_union_right _ (m 3 h)))
  have d01 := slab_disjoint M (i := 0) (j := 1) (by decide)
  have d02 := slab_disjoint M (i := 0) (j := 2) (by decide)
  have d03 := slab_disjoint M (i := 0) (j := 3) (by decide)
  have d12 := slab_disjoint M (i := 1) (j := 2) (by decide)
  have d13 := slab_disjoint M (i := 1) (j := 3) (by decide)
  have d23 := slab_disjoint M (i := 2) (j := 3) (by decide)
  show (M.view.loc (c : Thread nD τ) ↦[Finset.univ]{fullShare} f : sProp 𝕄) = _
  unfold slabPts
  rw [show (Finset.univ : Finset (Idx (M.view.loc (c : Thread nD τ)))) = _ from hu]
  have e1 := pointsTo_union (ℓ := M.view.loc (c : Thread nD τ)) (q := fullShare) (f := f) (Ix := Unit) (Name := ℕ) (U := UU) (Lvl := ℕ) (Finset.disjoint_union_right.mpr ⟨d01, Finset.disjoint_union_right.mpr ⟨d02, d03⟩⟩)
  have e2 := pointsTo_union (ℓ := M.view.loc (c : Thread nD τ)) (q := fullShare) (f := f) (Ix := Unit) (Name := ℕ) (U := UU) (Lvl := ℕ) (Finset.disjoint_union_right.mpr ⟨d12, d13⟩)
  have e3 := pointsTo_union (ℓ := M.view.loc (c : Thread nD τ)) (q := fullShare) (f := f) (Ix := Unit) (Name := ℕ) (U := UU) (Lvl := ℕ) d23
  rw [Entails.antisymm e1.1 e1.2, Entails.antisymm e2.1 e2.2, Entails.antisymm e3.1 e3.2]

/-! ## What a slab holds -/

/-- A stored slab: writing `v i` through slab `i`'s rectangle leaves on the slab what the stack of `v` has there. -/
theorem stack_agrees (v : Fin 4 → Vec F S1x288x1024 .bf16) (i : Fin 4) (j : S4x288x1024.Idx) (hj : j ∈ (slabRect i).set) :
    stack v j = v i (ix3 0 (j 1) (j 2)) := by
  unfold stack
  rw [(mem_slabRect i j).mp hj]

/-- The stack of `v`, at the place slab `i` gives index `j`, is `v i` at `j`. -/
theorem stack_idx (v : Fin 4 → Vec F S1x288x1024 .bf16) (i : Fin 4) (j : (slabRect i).shape.Idx) :
    stack v ((slabRect i).idx j) = v i j := by
  rw [stack_agrees v i _ ((slabRect i).idx_mem j)]
  congr 1
  funext a
  match a with
  | ⟨0, _⟩ => exact (Fin.ext (by have h : (j 0 : ℕ) < 1 := (j 0).isLt; show (0 : ℕ) = (j 0 : ℕ); omega))
  | ⟨1, _⟩ => exact (Fin.ext (by show 0 + 1 * (j 1 : ℕ) = (j 1 : ℕ); omega))
  | ⟨2, _⟩ => exact (Fin.ext (by show 0 + 1 * (j 2 : ℕ) = (j 2 : ℕ); omega))

/-- A slab of tokens stored for the peer is the stack's. -/
theorem sent_stored (c : Dev nD) (i : Fin 4) (v : Fin 4 → Vec F S1x288x1024 .bf16) (f : Buf (Elt F) (sentM.view.loc (c : Thread nD τ))) :
    (slabPts sentM c i (View.writes sentM.view (Elt F) f [⟨slabRect i, v i⟩]) : sProp 𝕄) = slabPts sentM c i (stack v) := by
  refine pointsTo_congr fun y hy => ?_
  obtain ⟨x, hx, rfl⟩ := Finset.mem_map.mp hy
  obtain ⟨j, rfl⟩ := (slabRect i).exists_idx_of_mem hx
  rw [View.writes_singleton]
  exact (View.write_emb_of_mem (v := sentM.view.slice (slabRect i)) (Val := Elt F) f (v i) (Finset.mem_univ j)).trans (stack_idx v i j).symm

/-- A slab of results stored for the peer is the stack's. -/
theorem ret_stored (c : Dev nD) (i : Fin 4) (v : Fin 4 → Vec F S1x288x1024 .bf16) (f : Buf (Elt F) (retM.view.loc (c : Thread nD τ))) :
    (slabPts retM c i (View.writes retM.view (Elt F) f [⟨slabRect i, v i⟩]) : sProp 𝕄) = slabPts retM c i (stack v) := by
  refine pointsTo_congr fun y hy => ?_
  obtain ⟨x, hx, rfl⟩ := Finset.mem_map.mp hy
  obtain ⟨j, rfl⟩ := (slabRect i).exists_idx_of_mem hx
  rw [View.writes_singleton]
  exact (View.write_emb_of_mem (v := retM.view.slice (slabRect i)) (Val := Elt F) f (v i) (Finset.mem_univ j)).trans (stack_idx v i j).symm

/-- A slab of the device's own results stored is the stack's. -/
theorem mine_stored (c : Dev nD) (i : Fin 4) (v : Fin 4 → Vec F S1x288x1024 .bf16) (f : Buf (Elt F) (mineM.view.loc (c : Thread nD τ))) :
    (slabPts mineM c i (View.writes mineM.view (Elt F) f [⟨slabRect i, v i⟩]) : sProp 𝕄) = slabPts mineM c i (stack v) := by
  refine pointsTo_congr fun y hy => ?_
  obtain ⟨x, hx, rfl⟩ := Finset.mem_map.mp hy
  obtain ⟨j, rfl⟩ := (slabRect i).exists_idx_of_mem hx
  rw [View.writes_singleton]
  exact (View.write_emb_of_mem (v := mineM.view.slice (slabRect i)) (Val := Elt F) f (v i) (Finset.mem_univ j)).trans (stack_idx v i j).symm

/-- A slab of tokens copied to the peer lands as it was. -/
theorem recv_landed (d c : Dev nD) (i : Fin 4) (g : Vec F S4x288x1024 .bf16) (f : Buf (Elt F) (recvM.view.loc (c : Thread nD τ))) :
    ((slab recvM i).view.loc (c : Thread nD τ) ↦[(slab recvM i).view.set]{fullShare}
      ((slab recvM i).view.write (Elt F) f ((slab sentM i).view.read (Elt F) (g : Buf (Elt F) ((slab sentM i).view.loc (d : Thread nD τ)))) Finset.univ) : sProp 𝕄)
      = slabPts recvM c i g := by
  unfold slabPts
  rw [← slab_set]
  refine pointsTo_congr fun y hy => ?_
  obtain ⟨x, -, rfl⟩ := Finset.mem_map.mp hy
  exact View.write_emb_of_mem (v := (slab recvM i).view) (Val := Elt F) f ((slab sentM i).view.read (Elt F) g) (Finset.mem_univ x)

/-- A slab of results copied back to the peer lands as it was. -/
theorem back_landed (d c : Dev nD) (i : Fin 4) (g : Vec F S4x288x1024 .bf16) (f : Buf (Elt F) (backM.view.loc (c : Thread nD τ))) :
    ((slab backM i).view.loc (c : Thread nD τ) ↦[(slab backM i).view.set]{fullShare}
      ((slab backM i).view.write (Elt F) f ((slab retM i).view.read (Elt F) (g : Buf (Elt F) ((slab retM i).view.loc (d : Thread nD τ)))) Finset.univ) : sProp 𝕄)
      = slabPts backM c i g := by
  unfold slabPts
  rw [← slab_set]
  refine pointsTo_congr fun y hy => ?_
  obtain ⟨x, -, rfl⟩ := Finset.mem_map.mp hy
  exact View.write_emb_of_mem (v := (slab backM i).view) (Val := Elt F) f ((slab retM i).view.read (Elt F) g) (Finset.mem_univ x)

/-- Slab `i` of the stack of `v` read back is `v i`. -/
theorem stack_read (v : Fin 4 → Vec F S1x288x1024 .bf16) (i : Fin 4) :
    recvM.view.readAt (Elt F) (slabRect i).toLoadRect (stack v) = v i :=
  funext fun j => stack_idx v i j

end Cert.KernelIdeal.Moe

end
-- ==== Proof.KernelIdeal.Proto.lean ====
/- The exchange between a device and its peer, the device across the mesh's second axis: one round on every cell.
   A device's signal hands its peer the right to write its receive slabs; each slab of tokens sent pays the peer's
   receive cell with the slab at the tokens; each slab of results sent back pays the peer's return cell with the slab at
   the results. The cells' schedule carries these contents, so what a wait hands over is known. -/
module

public import proofs.«01_k».proof.Proof.KernelIdeal.Slabs

@[expose] public section

noncomputable section

namespace Cert.KernelIdeal.Moe

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The peer and the cells -/

/-- The device across the mesh's second axis. -/
def peer (c : Dev nD) : Dev nD := ⟨c.val ^^^ 2, by revert c; decide⟩
theorem peer_peer (c : Dev nD) : peer (peer c) = c := by revert c; decide
/-- The peer, as a permutation of the devices. -/
def swap : Dev nD ≃ Dev nD := ⟨peer, peer, peer_peer, peer_peer⟩

abbrev barS : Sem sig := 0
abbrev fsS (i : Fin 4) : DmaSem sig := ⟨3 + i.val, by have := i.isLt; show _ < 23; omega⟩
abbrev frS (i : Fin 4) : DmaSem sig := ⟨7 + i.val, by have := i.isLt; show _ < 23; omega⟩
abbrev bsS (i : Fin 4) : DmaSem sig := ⟨11 + i.val, by have := i.isLt; show _ < 23; omega⟩
abbrev brS (i : Fin 4) : DmaSem sig := ⟨15 + i.val, by have := i.isLt; show _ < 23; omega⟩

abbrev cellOn (c : Dev nD) (n : DmaSem sig) : GSem nD τ sig := ((c : Thread nD τ), .dma n)
abbrev barCell (c : Dev nD) : GSem nD τ sig := ((c : Thread nD τ), .reg barS)

/-- Which family a DMA semaphore is of: 1 tokens sent, 2 tokens received, 3 results sent, 4 results received. -/
def fam (n : DmaSem sig) : ℕ := (n.val + 1) / 4
/-- Its place in the family. -/
def place (n : DmaSem sig) : Fin 4 := ⟨(n.val + 1) % 4, Nat.mod_lt _ (by decide)⟩

theorem fam_fs (i : Fin 4) : fam (fsS i) = 1 := by revert i; decide
theorem fam_fr (i : Fin 4) : fam (frS i) = 2 := by revert i; decide
theorem fam_bs (i : Fin 4) : fam (bsS i) = 3 := by revert i; decide
theorem fam_br (i : Fin 4) : fam (brS i) = 4 := by revert i; decide
theorem place_fs (i : Fin 4) : place (fsS i) = i := by revert i; decide
theorem place_fr (i : Fin 4) : place (frS i) = i := by revert i; decide
theorem place_bs (i : Fin 4) : place (bsS i) = i := by revert i; decide
theorem place_br (i : Fin 4) : place (brS i) = i := by revert i; decide

/-- The units one slab's copy signals. -/
abbrev N : ℕ := (slab recvM 0).view.dmaCredit
theorem N_pos : 0 < N := View.dmaCredit_pos _ (by decide)

/-! ## What each device holds and computes -/

variable (m : (ℓ : Loc nD τ sig) → Buf (Elt F) ℓ)

/-- The assignment row, as the kernel is given it. -/
def aOf (c : Dev nD) : Vec F S1x2048 .i32 := V m c main_v1
/-- The tokens. -/
def xOf (c : Dev nD) : Vec F S2048x1024 .f32 := V m c main_arg0
/-- The first weights. -/
def w1Of (c : Dev nD) : Vec F S4x1024x2048 .f32 := V m c main_arg2
/-- The second weights. -/
def w2Of (c : Dev nD) : Vec F S4x2048x1024 .f32 := V m c main_arg3

/-- The token slabs device `c` sends. -/
def sentOf (c : Dev nD) : Fin 4 → Vec F S1x288x1024 .bf16 := theirsV (myWord c) (aOf m c) (xOf m c)
/-- The results for its own tokens. -/
def mineOf (c : Dev nD) : Fin 4 → Vec F S1x288x1024 .bf16 := mineV (myWord c) (aOf m c) (xOf m c) (w1Of m c) (w2Of m c)
/-- The results device `c` sends back: from the peer's tokens and its own weights. -/
def retOf (c : Dev nD) : Fin 4 → Vec F S1x288x1024 .bf16 := backV (sentOf m (peer c)) (w1Of m c) (w2Of m c)
/-- The output block of device `c`. -/
def outOf (c : Dev nD) : Vec F S2048x1024 .f32 :=
  outC (outV (myWord c) (aOf m c) (stack (mineOf m c)) (stack (retOf m (peer c))))

/-! ## The schedule -/

/-- What a device gives its peer with its signal, per slab: the receive slab and the return slab at whatever they hold,
    and that the cells which those slabs' copies pay are open. -/
def give (c : Dev nD) (i : Fin 4) : sProp 𝕄 :=
  iprop((∃ f, slabPts recvM c i f) ∗ (∃ f, slabPts backM c i f) ∗ reached (ER (F := F)) (cellOn c (frS i)) 0 ∗ reached (ER (F := F)) (cellOn c (brS i)) 0)

/-- What device `c` waits for at its barrier cell: all the peer gives. -/
def barPay (c : Dev nD) : sProp 𝕄 := iprop(give (peer c) 0 ∗ give (peer c) 1 ∗ give (peer c) 2 ∗ give (peer c) 3)

/-- What comes with a DMA cell's units, by family. -/
def dmaPay (c : Dev nD) (n : DmaSem sig) : sProp 𝕄 :=
  if fam n = 1 then slabPts sentM c (place n) (stack (sentOf m c))
  else if fam n = 2 then slabPts recvM c (place n) (stack (sentOf m (peer c)))
  else if fam n = 3 then slabPts retM c (place n) (stack (retOf m c))
  else if fam n = 4 then slabPts backM c (place n) (stack (retOf m (peer c)))
  else iprop(emp)

/-- Whether a semaphore is of the exchange. -/
def talks : SemLoc sig → Bool
  | .reg _ => true
  | .dma n => decide (1 ≤ fam n ∧ fam n ≤ 4)

/-- What comes with a cell's units. -/
def payOn (c : Dev nD) : SemLoc sig → sProp 𝕄
  | .reg _ => barPay c
  | .dma n => dmaPay m c n

/-- How many units a cell's duty pays. -/
def unitsOn : SemLoc sig → ℕ
  | .reg _ => 1
  | .dma _ => N

/-- The exchange: one duty in round 0 of every cell of it. -/
def rd : Rounds.Schedule (GSem nD τ sig) Unit 𝕄 where
  duties g r := if r = 0 ∧ g.1.2 = .tc ∧ talks g.2 = true then {()} else ∅
  unitless _ := False
  amount g _ _ := unitsOn g.2
  payload g _ _ := payOn m g.1.1 g.2
  amount_pos g _ _ _ := by
    rcases g with ⟨t, s | s⟩
    · exact Nat.one_pos
    · exact N_pos

instance reached_storable (g : GSem nD τ sig) : BI.Storable (upEmb : UEmb _ 𝕄) (reached (ER (F := F)) g 0) := by
  infer_instance
instance held_storable (M : Memref sig .tc .vmem S4x288x1024 .bf16) (c : Dev nD) (i : Fin 4) :
    BI.Storable (upEmb : UEmb _ 𝕄) (iprop(∃ f, slabPts M c i f) : sProp 𝕄) := by
  infer_instance

/-- Four storable assertions together. -/
theorem storable_four {P Q R S : sProp 𝕄} (hP : BI.Storable (upEmb : UEmb _ 𝕄) P) (hQ : BI.Storable (upEmb : UEmb _ 𝕄) Q)
    (hR : BI.Storable (upEmb : UEmb _ 𝕄) R) (hS : BI.Storable (upEmb : UEmb _ 𝕄) S) : BI.Storable (upEmb : UEmb _ 𝕄) iprop(P ∗ Q ∗ R ∗ S) := by
  infer_instance

instance give_storable (c : Dev nD) (i : Fin 4) : BI.Storable (upEmb : UEmb _ 𝕄) (give (F := F) c i) := by
  unfold give
  exact storable_four (held_storable recvM c i) (held_storable backM c i) (reached_storable _) (reached_storable _)

instance rd_storable (g : GSem nD τ sig) (r : ℕ) (d : Unit) : BI.Storable (upEmb : UEmb _ 𝕄) ((rd (F := F) m).payload g r d) := by
  rcases g with ⟨t, s | s⟩
  · show BI.Storable upEmb (barPay (F := F) t.1)
    unfold barPay
    exact storable_four (give_storable _ 0) (give_storable _ 1) (give_storable _ 2) (give_storable _ 3)
  · show BI.Storable upEmb (dmaPay m t.1 s)
    unfold dmaPay
    (repeat' split) <;> infer_instance

theorem duties_tc (c : Dev nD) (s : SemLoc sig) (h : talks s = true) : (rd m).duties ((c : Thread nD τ), s) 0 = {()} := if_pos ⟨rfl, rfl, h⟩
theorem mem_duties (c : Dev nD) (s : SemLoc sig) (h : talks s = true) : () ∈ (rd m).duties ((c : Thread nD τ), s) 0 := by
  rw [duties_tc m c s h]; exact Finset.mem_singleton_self _
theorem duties_later (g : GSem nD τ sig) : ∀ r, 1 ≤ r → (rd m).duties g r = ∅ :=
  fun _ hr => if_neg fun h => absurd h.1 (by omega)
theorem expect_tc (c : Dev nD) (s : SemLoc sig) (h : talks s = true) : (rd m).expect ((c : Thread nD τ), s) 0 = unitsOn s := by
  unfold Schedule.expect Schedule.amountOf; rw [duties_tc m c s h, Finset.sum_singleton]; rfl
theorem rest_tc (c : Dev nD) (s : SemLoc sig) (h : talks s = true) :
    bigSep ((rd m).duties ((c : Thread nD τ), s) 0 \ ∅) (fun u => (rd m).payload ((c : Thread nD τ), s) 0 u) = payOn m c s := by
  rw [Finset.sdiff_empty, duties_tc m c s h, bigSep_singleton]; rfl

theorem talks_bar : talks (.reg barS) = true := rfl
theorem talks_fs (i : Fin 4) : talks (.dma (fsS i)) = true := by revert i; decide
theorem talks_fr (i : Fin 4) : talks (.dma (frS i)) = true := by revert i; decide
theorem talks_bs (i : Fin 4) : talks (.dma (bsS i)) = true := by revert i; decide
theorem talks_br (i : Fin 4) : talks (.dma (brS i)) = true := by revert i; decide

theorem pay_fs (c : Dev nD) (i : Fin 4) : payOn m c (.dma (fsS i)) = slabPts sentM c i (stack (sentOf m c)) := by
  show dmaPay m c (fsS i) = _
  unfold dmaPay; rw [if_pos (fam_fs i), place_fs]
theorem pay_fr (c : Dev nD) (i : Fin 4) : payOn m c (.dma (frS i)) = slabPts recvM c i (stack (sentOf m (peer c))) := by
  show dmaPay m c (frS i) = _
  unfold dmaPay; rw [if_neg (by rw [fam_fr]; decide), if_pos (fam_fr i), place_fr]
theorem pay_bs (c : Dev nD) (i : Fin 4) : payOn m c (.dma (bsS i)) = slabPts retM c i (stack (retOf m c)) := by
  show dmaPay m c (bsS i) = _
  unfold dmaPay; rw [if_neg (by rw [fam_bs]; decide), if_neg (by rw [fam_bs]; decide), if_pos (fam_bs i), place_bs]
theorem pay_br (c : Dev nD) (i : Fin 4) : payOn m c (.dma (brS i)) = slabPts backM c i (stack (retOf m (peer c))) := by
  show dmaPay m c (brS i) = _
  unfold dmaPay
  rw [if_neg (by rw [fam_br]; decide), if_neg (by rw [fam_br]; decide), if_neg (by rw [fam_br]; decide), if_pos (fam_br i), place_br]

/-! ## What each device owes, and the order of the cells -/

/-- The peer's cells a device pays, the last one paid first in the list. -/
def dueCell (c : Dev nD) : ℕ → GSem nD τ sig
  | 0 => cellOn (peer c) (brS 3)
  | 1 => cellOn (peer c) (brS 2)
  | 2 => cellOn (peer c) (brS 1)
  | 3 => cellOn (peer c) (brS 0)
  | 4 => cellOn (peer c) (frS 3)
  | 5 => cellOn (peer c) (frS 2)
  | 6 => cellOn (peer c) (frS 1)
  | 7 => cellOn (peer c) (frS 0)
  | _ => barCell (peer c)

/-- What device `c` owes while `k` payments remain. -/
def debt (c : Dev nD) : ℕ → CellTallies nD τ sig Unit
  | 0 => 0
  | k + 1 => debt c k + tallyAt (dueCell c k) () (unitsOn (dueCell c k).2)

/-- A device's cells with levels: one level per cell. -/
def L (g : GSem nD τ sig) : Finset Unit := if g.1.2 = .tc then {()} else ∅
/-- Barrier at 1, tokens received at 2, results received at 3, everything else at 0. -/
def lv (g : GSem nD τ sig) (_ : Unit) : ℕ :=
  match g.2 with
  | .reg _ => 1
  | .dma n => if fam n = 2 then 2 else if fam n = 4 then 3 else 0

theorem L_of_ne (g : GSem nD τ sig) (h : g.1.2 ≠ .tc) : L g = ∅ := if_neg h
theorem L_tc (c : Dev nD) (s : SemLoc sig) : L ((c : Thread nD τ), s) = {()} := if_pos rfl

/-- Everything owed in `O` lies above level `k`, on TensorCore cells. -/
def Above (k : ℕ) (O : CellTallies nD τ sig Unit) : Prop := ∀ g u, 0 < O g u → u ∈ L g ∧ k < lv g u

theorem above_zero (k : ℕ) : Above k 0 := fun _ _ h => absurd h (Nat.lt_irrefl 0)
theorem above_add (k : ℕ) {O O' : CellTallies nD τ sig Unit} (h : Above k O) (h' : Above k O') : Above k (O + O') := by
  intro g u hg
  rcases Nat.eq_zero_or_pos (O g u) with h0 | hp
  · refine h' g u ?_
    have : (O + O') g u = O g u + O' g u := rfl
    omega
  · exact h g u hp
theorem above_tally (k : ℕ) (c : Dev nD) (s : SemLoc sig) (n : ℕ) (h : k < lv ((c : Thread nD τ), s) ()) :
    Above k (tallyAt ((c : Thread nD τ), s) () n) := by
  intro g u hg
  rw [tallyAt_apply] at hg
  by_cases e : g = ((c : Thread nD τ), s) ∧ u = ()
  · rw [e.1]; exact ⟨by rw [L_tc]; exact Finset.mem_singleton_self _, h⟩
  · rw [if_neg e] at hg; exact absurd hg (Nat.lt_irrefl 0)

/-- A device may wait at a cell below everything it owes. -/
theorem mayWait (c : Dev nD) (s : SemLoc sig) {O : CellTallies nD τ sig Unit} (h : Above (lv ((c : Thread nD τ), s) ()) O) :
    (levAts L lv : sProp 𝕄) ⊢ MayWait (c : Thread nD τ) s () O :=
  MayOwe.of_cut (L := L) (lev := lv) _ (fun p hp => by rw [Finset.mem_singleton.mp hp, L_tc]; exact Finset.mem_singleton_self _)
    (fun g u hg => (h g u hg).1) (fun p hp => by rw [Finset.mem_singleton.mp hp]) (fun g u hg => (h g u hg).2)

theorem lv_fr (c : Dev nD) (i : Fin 4) : lv (cellOn c (frS i)) () = 2 := if_pos (fam_fr i)
theorem lv_br (c : Dev nD) (i : Fin 4) : lv (cellOn c (brS i)) () = 3 := by
  show (if fam (brS i) = 2 then 2 else if fam (brS i) = 4 then 3 else 0) = 3
  rw [fam_br]; rfl

/-- While at most eight payments remain (the signal is made) everything owed lies above level 1; -/
theorem above_debt8 (c : Dev nD) : ∀ k, k ≤ 8 → Above 1 (debt c k) := by
  intro k hk
  induction k with
  | zero => exact above_zero _
  | succ k ih =>
    refine above_add _ (ih (by omega)) ?_
    have hk' : k = 0 ∨ k = 1 ∨ k = 2 ∨ k = 3 ∨ k = 4 ∨ k = 5 ∨ k = 6 ∨ k = 7 := by omega
    rcases hk' with rfl | rfl | rfl | rfl | rfl | rfl | rfl | rfl
    iterate 4 exact above_tally _ _ _ _ (Nat.lt_of_lt_of_eq (by decide : 1 < 3) (lv_br _ _).symm)
    iterate 4 exact above_tally _ _ _ _ (Nat.lt_of_lt_of_eq (by decide : 1 < 2) (lv_fr _ _).symm)
/-- while at most four remain (the tokens are sent), above level 2. -/
theorem above_debt4 (c : Dev nD) : ∀ k, k ≤ 4 → Above 2 (debt c k) := by
  intro k hk
  induction k with
  | zero => exact above_zero _
  | succ k ih =>
    refine above_add _ (ih (by omega)) ?_
    have hk' : k = 0 ∨ k = 1 ∨ k = 2 ∨ k = 3 := by omega
    rcases hk' with rfl | rfl | rfl | rfl <;> exact above_tally _ _ _ _ (Nat.lt_of_lt_of_eq (by decide : 2 < 3) (lv_br _ _).symm)
theorem Above.mono {j k : ℕ} (h : j ≤ k) {O : CellTallies nD τ sig Unit} (hO : Above k O) : Above j O :=
  fun g u hg => ⟨(hO g u hg).1, lt_of_le_of_lt h (hO g u hg).2⟩

/-! ## The ghost state -/

/-- Every cell's invariant, at the names `K`. -/
def invs (K : GSem nD τ sig → ℕ) : sProp 𝕄 :=
  iprop(∀ c : Dev nD, ∀ s : {s : SemLoc sig // talks s = true},
    cellInv (ER (F := F)) (rd m) (K ((c : Thread nD τ), s.1)) ((c : Thread nD τ), s.1))

instance invs_persistent (K : GSem nD τ sig → ℕ) : BI.Persistent (invs m K) := by unfold invs; infer_instance

end Cert.KernelIdeal.Moe

end
-- ==== Proof.KernelIdeal.Steps.lean ====
/- The steps of the exchange, one theorem each: the signal to the peer, the wait for it, a slab of tokens sent, a slab
   of results sent back, and the wait on any of the exchange's DMA cells. -/
module

public import proofs.«01_k».proof.Proof.KernelIdeal.Proto

@[expose] public section

noncomputable section

namespace Cert.KernelIdeal.Moe

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- No loop is bounded by a variant. -/
abbrev 𝒱₀ : Variants := Variants.none

variable (m : (ℓ : Loc nD τ sig) → Buf (Elt F) ℓ) (K : GSem nD τ sig → ℕ)

/-- The invariant of one cell, out of all of them. -/
theorem invs_at (c : Dev nD) (s : SemLoc sig) (h : talks s = true) :
    (invs m K : sProp 𝕄) ⊢ cellInv (ER (F := F)) (rd m) (K ((c : Thread nD τ), s)) ((c : Thread nD τ), s) := by
  unfold invs
  exact (BI.BIClass.forall_elim c).trans (BI.BIClass.forall_elim (⟨s, h⟩ : {s : SemLoc sig // talks s = true}))

variable {α : Type} (c : Dev nD)

/-- The signal: the peer is given this device's receive and return slabs, and one payment is made. -/
theorem signal_step (dev : Dev nD) (hdev : dev = peer c) {W : Waits sig Unit} {k : PUnit → Prog (TpuEff nD τ sig (Elt F) Λ₀ .tc) α} {Q : α → sProp 𝕄} :
    iprop(invs m K ∗ owes (c : Thread nD τ) (debt c 9) W ∗ dutyTok (ER (F := F)) (barCell (peer c)) 0 () ∗ reached (ER (F := F)) (barCell (peer c)) 0
        ∗ give c 0 ∗ give c 1 ∗ give c 2 ∗ give c 3)
      ⊢ iprop((owes (c : Thread nD τ) (debt c 8) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc dev) barS 1) k) Q) := by
  subst hdev
  iintro ⟨#HI, HO, Ht, Hr, Hg⟩ Hk
  iapply (Rounds.wp_signal 𝒱₀ (ER (F := F)) (rd m) (c : Thread nD τ) none (dst := (peer c : Thread nD τ)) (sem := barS) (r := 0) (d := ())
      (κ := K (barCell (peer c))) (mem_duties m (peer c) (.reg barS) talks_bar) (rfl : _ = 1) () (debt c 8) rfl) $$ [HO Ht Hr Hg]
  · isplitr; · iapply (invs_at m K (peer c) (.reg barS) talks_bar); iexact HI
    isplitl [HO]; · iexact HO
    isplitl [Ht]; · iexact Ht
    isplitl [Hg]
    · rw [show (rd m).payload (barCell (peer c)) 0 () = barPay (F := F) (peer c) from rfl]
      unfold barPay; rw [peer_peer]
      iexact Hg
    · iexact Hr
  iexact Hk

/-- The wait for the peer's signal: the peer's slabs come with it. -/
theorem barrier_step {W : Waits sig Unit} {k : PUnit → Prog (TpuEff nD τ sig (Elt F) Λ₀ .tc) α} {Q : α → sProp 𝕄} :
    iprop(invs m K ∗ cred (tallyAt (barCell c) () 1) ∗ owes (c : Thread nD τ) (debt c 8) W ∗ levAts L lv ∗ atPos (ER (F := F)) (barCell c) 0 ∅ 0)
      ⊢ iprop(((∃ W, owes (c : Thread nD τ) (debt c 8) W) ∗ atPos (ER (F := F)) (barCell c) 1 ∅ 0 ∗ give (peer c) 0 ∗ give (peer c) 1 ∗ give (peer c) 2 ∗ give (peer c) 3
          -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 1) k) Q) := by
  iintro ⟨#HI, Hc, HO, Hlev, Hat⟩ Hk
  iapply (Rounds.wp_wait_rest_token 𝒱₀ (ER (F := F)) (rd m) (c : Thread nD τ) none (κ := K (barCell c))
      (wpE_semWait_eq 𝒱₀ (c : Thread nD τ) none Set.univ) (Set.mem_univ _) () (O := debt c 8) (W := W) (R := 0) (m := 0) (T := ∅)
      ((Nat.zero_add 1).trans (expect_tc m c (.reg barS) talks_bar).symm)) $$ [Hc HO Hlev Hat]
  · isplitr; · iapply (invs_at m K c (.reg barS) talks_bar); iexact HI
    isplitl [Hc]; · iexact Hc
    isplitl [HO]; · iexact HO
    isplitl [Hlev]; · iapply (mayWait c (.reg barS) (above_debt8 c 8 (le_refl _))); iexact Hlev
    iexact Hat
  iintro ⟨HO, Hat, -, Hpay⟩
  ihave Hp := (Entails.of_eq ((rest_tc m c (.reg barS) talks_bar).trans (rfl : _ = barPay (F := F) c))) $$ Hpay
  unfold barPay
  iapply Hk
  isplitl [HO]; · iexists _; iexact HO
  isplitl [Hat]; · iexact Hat
  iexact Hp

/-- The wait on a DMA cell of the exchange: what the cell's copy carried comes with it. -/
theorem wait_step (n : DmaSem sig) (h : talks (.dma n) = true) {O : CellTallies nD τ sig Unit} (hO : Above (lv (cellOn c n) ()) O) {W : Waits sig Unit}
    {sp sp' : Space} {s s' : Shape} {e e' : EltTy} {src : Memref sig .tc sp' s' e'} {dst : Memref sig .tc sp s e} {hsrc : src.view.WordExact} {hdst : dst.view.WordExact}
    (hN : dst.view.dmaCredit = N) {k : PUnit → Prog (TpuEff nD τ sig (Elt F) Λ₀ .tc) α} {Q : α → sProp 𝕄} :
    iprop(invs m K ∗ cred (tallyAt (cellOn c n) () N) ∗ owes (c : Thread nD τ) O W ∗ levAts L lv ∗ atPos (ER (F := F)) (cellOn c n) 0 ∅ 0)
      ⊢ iprop(((∃ W, owes (c : Thread nD τ) O W) ∗ atPos (ER (F := F)) (cellOn c n) 1 ∅ 0 ∗ payOn m c (.dma n)
          -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 n src dst hsrc hdst) k) Q) := by
  iintro ⟨#HI, Hc, HO, Hlev, Hat⟩ Hk
  iapply (Rounds.wp_wait_rest_token 𝒱₀ (ER (F := F)) (rd m) (c : Thread nD τ) none (κ := K (cellOn c n)) (k' := dst.view.dmaCredit)
      (wpE_waitDma2_eq 𝒱₀ (c : Thread nD τ) none Set.univ) (Set.mem_univ _) () (O := O) (W := W) (R := 0) (m := 0) (T := ∅)
      ((Nat.zero_add _).trans (hN.trans (expect_tc m c (.dma n) h).symm))) $$ [Hc HO Hlev Hat]
  · isplitr; · iapply (invs_at m K c (.dma n) h); iexact HI
    isplitl [Hc]; · rw [hN]; iexact Hc
    isplitl [HO]; · iexact HO
    isplitl [Hlev]; · iapply (mayWait c (.dma n) hO); iexact Hlev
    iexact Hat
  iintro ⟨HO, Hat, -, Hpay⟩
  ihave Hp := (Entails.of_eq (rest_tc m c (.dma n) h)) $$ Hpay
  iapply Hk
  isplitl [HO]; · iexists _; iexact HO
  isplitl [Hat]; · iexact Hat
  iexact Hp

/-- A slab of tokens sent to the peer. -/
theorem send_step (i : Fin 4) (dev : Dev nD) (hdev : dev = peer c) {O₁ O : CellTallies nD τ sig Unit} (hO : O₁ = O + tallyAt (cellOn (peer c) (frS i)) () N) {W : Waits sig Unit}
    {hsrc : (slab sentM i).view.WordExact} {hdst : (slab recvM i).view.WordExact}
    {hsem : DmaTarget.Typed (nD := nD) (τ := τ) .vmem (.dma (frS i)) (.remote (Dev.tc dev) (slab recvM i) (.dma (fsS i)))}
    {k : PUnit → Prog (TpuEff nD τ sig (Elt F) Λ₀ .tc) α} {Q : α → sProp 𝕄} :
    iprop(invs m K ∗ slabPts sentM c i (stack (sentOf m c)) ∗ (∃ f, slabPts recvM (peer c) i f) ∗ owes (c : Thread nD τ) O₁ W
        ∗ dutyTok (ER (F := F)) (cellOn c (fsS i)) 0 () ∗ reached (ER (F := F)) (cellOn c (fsS i)) 0
        ∗ dutyTok (ER (F := F)) (cellOn (peer c) (frS i)) 0 () ∗ reached (ER (F := F)) (cellOn (peer c) (frS i)) 0)
      ⊢ iprop((cred (tallyAt (cellOn c (fsS i)) () N) ∗ owes (c : Thread nD τ) O W
          -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (slab sentM i) (.remote (Dev.tc dev) (slab recvM i) (.dma (fsS i))) (.dma (frS i)) hsrc hdst hsem) k) Q) := by
  subst hdev
  iintro ⟨#HI, Hs, ⟨%fd, Hd⟩, HO, Ht1, Hr1, Ht2, Hr2⟩ Hk
  iapply (Rounds.wp_send_pointsTo 𝒱₀ (ER (F := F)) (rd m) (c : Thread nD τ) none (c' := (peer c : Thread nD τ)) (src := slab sentM i) (dst := slab recvM i)
      (sS := .dma (fsS i)) (sem := .dma (frS i)) (q := fullShare) (fs := stack (sentOf m c)) (κ₁ := K (cellOn c (fsS i))) (κ₂ := K (cellOn (peer c) (frS i)))
      (r₁ := 0) (r₂ := 0) (d₁ := ()) (d₂ := ()) (fd := fd)
      (mem_duties m c _ (talks_fs i)) (mem_duties m (peer c) _ (talks_fr i)) () () N rfl rfl rfl O hO (W := W)
      (by show _ ⊢ payOn m c (.dma (fsS i)); rw [pay_fs, slab_set])
      (by show _ ⊢ payOn m (peer c) (.dma (frS i)); rw [pay_fr, peer_peer]; exact Entails.of_eq (recv_landed c (peer c) i (stack (sentOf m c)) fd))) $$ [Hs Hd HO Ht1 Hr1 Ht2 Hr2]
  · isplitr; · iapply (invs_at m K c _ (talks_fs i)); iexact HI
    isplitr; · iapply (invs_at m K (peer c) _ (talks_fr i)); iexact HI
    isplitl [Hs]; · rw [slab_set]; iexact Hs
    isplitl [Hd]; · rw [slab_set]; iexact Hd
    isplitl [HO]; · iexact HO
    isplitl [Ht1]; · iexact Ht1
    isplitl [Hr1]; · iexact Hr1
    isplitl [Ht2]; · iexact Ht2
    iexact Hr2
  iexact Hk

/-- A slab of results sent back to the peer. -/
theorem ret_step (i : Fin 4) (dev : Dev nD) (hdev : dev = peer c) {O₁ O : CellTallies nD τ sig Unit} (hO : O₁ = O + tallyAt (cellOn (peer c) (brS i)) () N) {W : Waits sig Unit}
    {hsrc : (slab retM i).view.WordExact} {hdst : (slab backM i).view.WordExact}
    {hsem : DmaTarget.Typed (nD := nD) (τ := τ) .vmem (.dma (brS i)) (.remote (Dev.tc dev) (slab backM i) (.dma (bsS i)))}
    {k : PUnit → Prog (TpuEff nD τ sig (Elt F) Λ₀ .tc) α} {Q : α → sProp 𝕄} :
    iprop(invs m K ∗ slabPts retM c i (stack (retOf m c)) ∗ (∃ f, slabPts backM (peer c) i f) ∗ owes (c : Thread nD τ) O₁ W
        ∗ dutyTok (ER (F := F)) (cellOn c (bsS i)) 0 () ∗ reached (ER (F := F)) (cellOn c (bsS i)) 0
        ∗ dutyTok (ER (F := F)) (cellOn (peer c) (brS i)) 0 () ∗ reached (ER (F := F)) (cellOn (peer c) (brS i)) 0)
      ⊢ iprop((cred (tallyAt (cellOn c (bsS i)) () N) ∗ owes (c : Thread nD τ) O W
          -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (slab retM i) (.remote (Dev.tc dev) (slab backM i) (.dma (bsS i))) (.dma (brS i)) hsrc hdst hsem) k) Q) := by
  subst hdev
  iintro ⟨#HI, Hs, ⟨%fd, Hd⟩, HO, Ht1, Hr1, Ht2, Hr2⟩ Hk
  iapply (Rounds.wp_send_pointsTo 𝒱₀ (ER (F := F)) (rd m) (c : Thread nD τ) none (c' := (peer c : Thread nD τ)) (src := slab retM i) (dst := slab backM i)
      (sS := .dma (bsS i)) (sem := .dma (brS i)) (q := fullShare) (fs := stack (retOf m c)) (κ₁ := K (cellOn c (bsS i))) (κ₂ := K (cellOn (peer c) (brS i)))
      (r₁ := 0) (r₂ := 0) (d₁ := ()) (d₂ := ()) (fd := fd)
      (mem_duties m c _ (talks_bs i)) (mem_duties m (peer c) _ (talks_br i)) () () N rfl rfl rfl O hO (W := W)
      (by show _ ⊢ payOn m c (.dma (bsS i)); rw [pay_bs, slab_set])
      (by show _ ⊢ payOn m (peer c) (.dma (brS i)); rw [pay_br, peer_peer]; exact Entails.of_eq (back_landed c (peer c) i (stack (retOf m c)) fd))) $$ [Hs Hd HO Ht1 Hr1 Ht2 Hr2]
  · isplitr; · iapply (invs_at m K c _ (talks_bs i)); iexact HI
    isplitr; · iapply (invs_at m K (peer c) _ (talks_br i)); iexact HI
    isplitl [Hs]; · rw [slab_set]; iexact Hs
    isplitl [Hd]; · rw [slab_set]; iexact Hd
    isplitl [HO]; · iexact HO
    isplitl [Ht1]; · iexact Ht1
    isplitl [Hr1]; · iexact Hr1
    isplitl [Ht2]; · iexact Ht2
    iexact Hr2
  iexact Hk

/-- A cell's counter back at zero once its one round is over. -/
theorem close_step (s : SemLoc sig) (h : talks s = true) :
    iprop(invs m K ∗ atPos (ER (F := F)) ((c : Thread nD τ), s) 1 ∅ 0) ⊢ (|={Set.univ}=> semVal ((c : Thread nD τ), s) 0 : sProp 𝕄) :=
  (sep_mono_left (invs_at m K c s h)).trans
    (Rounds.cell_close (ER (F := F)) (rd m) (Set.mem_univ _) id (duties_later m _))

end Cert.KernelIdeal.Moe

end
-- ==== Proof.KernelIdeal.Weights.lean ====
/- The weight tiles' copies. -/
module

public import proofs.«01_k».proof.Proof.KernelIdeal.Steps

@[expose] public section

noncomputable section

namespace Cert.KernelIdeal.Moe

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Gen

variable {F : FTy → Type} [FloatOps F]

local notation "𝕄" => MT nD τ sig Unit (Elt F) ℕ UU ℕ

variable (m : (ℓ : Loc nD τ sig) → Buf (Elt F) ℓ)

abbrev w1S (s : Fin 2) : DmaSem sig := ⟨19 + s.val, by have := s.isLt; show _ < 23; omega⟩
abbrev w2S (s : Fin 2) : DmaSem sig := ⟨21 + s.val, by have := s.isLt; show _ < 23; omega⟩

/-- A whole buffer at contents `f`. -/
abbrev held {sp : Space} {s : Shape} {e : EltTy} (M : Memref sig .tc sp s e) (c : Dev nD) (f : Buf (Elt F) (M.view.loc (c : Thread nD τ))) : sProp 𝕄 :=
  M.view.loc (c : Thread nD τ) ↦{fullShare} f

theorem tileInb (s : Fin 2) : ∀ a : Fin S2x1024x1024.rank, (![s.val, 0, 0] : Fin 3 → ℕ) a + S1x1024x1024.size a ≤ S2x1024x1024.size a := by
  revert s; decide
abbrev tileRect (s : Fin 2) : Rect S2x1024x1024 := Rect.unit (s := S2x1024x1024) ![s.val, 0, 0] S1x1024x1024.size (tileInb s)
abbrev tilePts (M : Memref sig .tc .vmem S2x1024x1024 .f32) (c : Dev nD) (s : Fin 2) (f : Buf (Elt F) (M.view.loc (c : Thread nD τ))) : sProp 𝕄 :=
  M.view.loc (c : Thread nD τ) ↦[M.view.setOn (tileRect s).set]{fullShare} f

/-- A debt above every weight copy's cell. -/
theorem mayWait_w (c : Dev nD) (n : DmaSem sig) (hn : 19 ≤ n.val) (k : ℕ) (hk : k ≤ 8) :
    (levAts L lv : sProp 𝕄) ⊢ MayWait (c : Thread nD τ) (.dma n) () (debt c k) :=
  mayWait c (.dma n) (by
    have h2 : fam n ≠ 2 := by unfold fam; omega
    have h4 : fam n ≠ 4 := by unfold fam; omega
    have e : lv ((c : Thread nD τ), .dma n) () = 0 := (if_neg h2).trans (if_neg h4)
    rw [e]; exact (above_debt8 c k hk).mono (Nat.zero_le _))

theorem dev1 (c : Dev nD) : (⟨k0_dev1 c, k0_dev1_lt c⟩ : Dev nD) = peer c := by revert c; decide

/-- Tile `s` of a weight buffer as the memref the kernel copies to. -/
abbrev tile (M : Memref sig .tc .vmem S2x1024x1024 .f32) (s : Fin 2) : Memref sig .tc .vmem S1024x1024 .f32 :=
  (M.slice (tileRect s) (fun _ => rfl)).squeeze S1024x1024 squeezes_S1x1024x1024_S1024x1024

theorem tile_set (M : Memref sig .tc .vmem S2x1024x1024 .f32) (s : Fin 2) : (tile M s).view.set = M.view.setOn (tileRect s).set := by
  unfold tile
  rw [Memref.set_view_squeeze]
  exact View.set_slice _ _

/-- The units one tile's copy signals. -/
abbrev NW : ℕ := (tile b1M 0).view.dmaCredit
theorem NW_pos : 0 < NW := View.dmaCredit_pos _ (by decide)

theorem pair_idx (v : Vec F S1x1024x1024 .f32) (s : Fin 2) (j : S1x1024x1024.Idx) :
    pair (fun _ => v) ((tileRect s).idx j) = v j := by
  show v (ix3 0 ((tileRect s).idx j 1) ((tileRect s).idx j 2)) = v j
  congr 1
  funext a
  match a with
  | ⟨0, _⟩ => exact (Fin.ext (by have h : (j 0 : ℕ) < 1 := (j 0).isLt; show (0 : ℕ) = (j 0 : ℕ); omega))
  | ⟨1, _⟩ => exact (Fin.ext (by show 0 + 1 * (j 1 : ℕ) = (j 1 : ℕ); omega))
  | ⟨2, _⟩ => exact (Fin.ext (by show 0 + 1 * (j 2 : ℕ) = (j 2 : ℕ); omega))

/-- A weight copy's cell, free. -/
def wfree (c : Dev nD) (n : DmaSem sig) : sProp 𝕄 := semVal (cellOn c n) 0

variable {α : Type} (c : Dev nD)

theorem inb_w1 (e : Fin 4) (h : Fin 2) : ∀ a : Fin S4x1024x2048.rank, (![e.val, 0, 1024 * h.val] : Fin 3 → ℕ) a + S1x1024x1024.size a ≤ S4x1024x2048.size a := by
  revert e h; decide
abbrev w1Rect (e : Fin 4) (h : Fin 2) : Rect S4x1024x2048 := Rect.unit (s := S4x1024x2048) ![e.val, 0, 1024 * h.val] S1x1024x1024.size (inb_w1 e h)
/-- Half `h` of expert `e`'s first weight as the memref the kernel copies from. -/
abbrev w1Src (e : Fin 4) (h : Fin 2) : Memref sig .tc .hbm S1024x1024 .f32 :=
  (w1M.slice (w1Rect e h) (fun _ => rfl)).squeeze S1024x1024 squeezes_S1x1024x1024_S1024x1024

theorem w1_idx (w : Vec F S4x1024x2048 .f32) (e : Fin 4) (h : Fin 2) (j : S1x1024x1024.Idx) : w ((w1Rect e h).idx j) = w1Tile w e h j := by
  unfold w1Tile
  congr 1
  funext a
  match a with
  | ⟨0, _⟩ => exact (Fin.ext (by have h : (j 0 : ℕ) < 1 := (j 0).isLt; show e.val + 1 * (j 0 : ℕ) = e.val; omega))
  | ⟨1, _⟩ => exact (Fin.ext (by show 0 + 1 * (j 1 : ℕ) = (j 1 : ℕ); omega))
  | ⟨2, _⟩ => exact (Fin.ext (by show 1024 * h.val + 1 * (j 2 : ℕ) = 1024 * h.val + (j 2 : ℕ); omega))

/-- A copied tile of the first weight holds that tile. -/
theorem w1_landed (c : Dev nD) (s : Fin 2) (e : Fin 4) (h : Fin 2) (w : Vec F S4x1024x2048 .f32) (f : Buf (Elt F) (b1M.view.loc (c : Thread nD τ))) :
    ((tile b1M s).view.loc (c : Thread nD τ) ↦[(tile b1M s).view.set]{fullShare}
      ((tile b1M s).view.write (Elt F) f ((w1Src e h).view.read (Elt F) (w : Buf (Elt F) ((w1Src e h).view.loc (c : Thread nD τ)))) Finset.univ) : sProp 𝕄)
      = tilePts b1M c s (pair fun _ => w1Tile w e h) := by
  unfold tilePts
  rw [← tile_set]
  refine pointsTo_congr fun y hy => ?_
  obtain ⟨x, -, rfl⟩ := Finset.mem_map.mp hy
  refine (View.write_emb_of_mem (v := (tile b1M s).view) (Val := Elt F) f ((w1Src e h).view.read (Elt F) w) (Finset.mem_univ x)).trans ?_
  have key : ∀ j : S1x1024x1024.Idx, w ((w1Rect e h).idx j) = pair (fun _ => w1Tile w e h) ((tileRect s).idx j) :=
    fun j => (w1_idx w e h j).trans (pair_idx _ s j).symm
  exact key _

/-- A tile of the first weight in flight to buffer tile `s`, and the rest of that weight. -/
def fly1 (c : Dev nD) (s : Fin 2) (e : Fin 4) (h : Fin 2) (w : Vec F S4x1024x2048 .f32) : sProp 𝕄 :=
  iprop(Transfers.Flight (countersEmb (U := UU)) (c : Thread nD τ) (.dma (w1S s)) () NW
      iprop(tilePts b1M c s (pair fun _ => w1Tile w e h) ∗ (w1M.view.loc (c : Thread nD τ) ↦[(w1Src e h).view.set]{fullShare} w))
    ∗ (w1M.view.loc (c : Thread nD τ) ↦[Finset.univ \ (w1Src e h).view.set]{fullShare} w))

/-- A tile's copy of the first weight issued. -/
theorem copy1_step (s : Fin 2) (e : Fin 4) (h : Fin 2) (w : Vec F S4x1024x2048 .f32)
    {hsrc : (w1Src e h).view.WordExact} {hdst : (tile b1M s).view.WordExact}
    {hsem : DmaTarget.Typed (nD := nD) (τ := τ) (p := .tc) .hbm (.dma (w1S s)) (.here (tile b1M s))}
    {k : PUnit → Prog (TpuEff nD τ sig (Elt F) Λ₀ .tc) α} {Q : α → sProp 𝕄} :
    iprop(held w1M c w ∗ (∃ f, tilePts b1M c s f) ∗ wfree c (w1S s))
      ⊢ iprop((fly1 c s e h w -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (w1Src e h) (.here (tile b1M s)) (.dma (w1S s)) hsrc hdst hsem) k) Q) := by
  unfold wfree
  iintro ⟨Hw, ⟨%f, Hd⟩, Hv⟩ Hk
  ihave Hsplit := (pointsTo_split_subset (Finset.subset_univ ((w1Src e h).view.set))).1 $$ Hw
  icases Hsplit with ⟨Hs, Hr⟩
  iapply (Transfers.wp_dmaLocal (countersEmb (U := UU)) 𝒱₀ (c : Thread nD τ) none (src := w1Src e h) (dst := tile b1M s) (via := .same) (sm := .dma (w1S s)) (q := fullShare) (fs := w) (fd := f)
    (Sd := (tile b1M s).view.set) () NW rfl NW_pos (Finset.Subset.refl _)) $$ [Hs Hd Hv]
  · isplitl [Hs]; · iexact Hs
    isplitl [Hd]; · rw [tile_set]; iexact Hd
    iexact Hv
  iintro Hf
  iapply Hk
  unfold fly1
  isplitl [Hf]
  · rw [← w1_landed c s e h w f]; iexact Hf
  iexact Hr

/-- The wait for it: the tile holds that half, and the weight is whole again. -/
theorem land1_step (s : Fin 2) (e : Fin 4) (h : Fin 2) (w : Vec F S4x1024x2048 .f32) (n : ℕ) (hn : n ≤ 8) {W : Waits sig Unit}
    {sp sp' : Space} {s₁ s₂ : Shape} {e₁ e₂ : EltTy} {src : Memref sig .tc sp' s₂ e₂} {dst : Memref sig .tc sp s₁ e₁} {hsrc : src.view.WordExact} {hdst : dst.view.WordExact}
    (hN : dst.view.dmaCredit = NW) {k : PUnit → Prog (TpuEff nD τ sig (Elt F) Λ₀ .tc) α} {Q : α → sProp 𝕄} :
    iprop(fly1 c s e h w ∗ owes (c : Thread nD τ) (debt c n) W ∗ levAts L lv)
      ⊢ iprop(((∃ W, owes (c : Thread nD τ) (debt c n) W) ∗ held w1M c w ∗ tilePts b1M c s (pair fun _ => w1Tile w e h) ∗ wfree c (w1S s)
          -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (w1S s) src dst hsrc hdst) k) Q) := by
  unfold fly1 wfree
  iintro ⟨⟨Hf, Hr⟩, HO, Hlev⟩ Hk
  iapply (Transfers.wp_waitLocalO (countersEmb (U := UU)) 𝒱₀ (c : Thread nD τ) none () hN) $$ [Hf HO Hlev]
  · isplitl [Hf]; · iexact Hf
    isplitl [HO]; · iexact HO
    iapply (mayWait_w c (w1S s) (Nat.le_trans (by decide) (Nat.le_add_right _ _)) n hn); iexact Hlev
  iintro ⟨⟨Ht, Hs⟩, Hv, HO⟩
  iapply Hk
  isplitl [HO]; · iexists _; iexact HO
  isplitl [Hs Hr]
  · iapply (pointsTo_split_subset (Finset.subset_univ ((w1Src e h).view.set))).2
    isplitl [Hs]; · iexact Hs
    iexact Hr
  isplitl [Ht]; · iexact Ht
  iexact Hv

theorem inb_w2 (e : Fin 4) (h : Fin 2) : ∀ a : Fin S4x2048x1024.rank, (![e.val, 1024 * h.val, 0] : Fin 3 → ℕ) a + S1x1024x1024.size a ≤ S4x2048x1024.size a := by
  revert e h; decide
abbrev w2Rect (e : Fin 4) (h : Fin 2) : Rect S4x2048x1024 := Rect.unit (s := S4x2048x1024) ![e.val, 1024 * h.val, 0] S1x1024x1024.size (inb_w2 e h)
/-- Half `h` of expert `e`'s second weight as the memref the kernel copies from. -/
abbrev w2Src (e : Fin 4) (h : Fin 2) : Memref sig .tc .hbm S1024x1024 .f32 :=
  (w2M.slice (w2Rect e h) (fun _ => rfl)).squeeze S1024x1024 squeezes_S1x1024x1024_S1024x1024

theorem w2_idx (w : Vec F S4x2048x1024 .f32) (e : Fin 4) (h : Fin 2) (j : S1x1024x1024.Idx) : w ((w2Rect e h).idx j) = w2Tile w e h j := by
  unfold w2Tile
  congr 1
  funext a
  match a with
  | ⟨0, _⟩ => exact (Fin.ext (by have h : (j 0 : ℕ) < 1 := (j 0).isLt; show e.val + 1 * (j 0 : ℕ) = e.val; omega))
  | ⟨1, _⟩ => exact (Fin.ext (by show 1024 * h.val + 1 * (j 1 : ℕ) = 1024 * h.val + (j 1 : ℕ); omega))
  | ⟨2, _⟩ => exact (Fin.ext (by show 0 + 1 * (j 2 : ℕ) = (j 2 : ℕ); omega))

/-- A copied tile of the second weight holds that tile. -/
theorem w2_landed (c : Dev nD) (s : Fin 2) (e : Fin 4) (h : Fin 2) (w : Vec F S4x2048x1024 .f32) (f : Buf (Elt F) (b2M.view.loc (c : Thread nD τ))) :
    ((tile b2M s).view.loc (c : Thread nD τ) ↦[(tile b2M s).view.set]{fullShare}
      ((tile b2M s).view.write (Elt F) f ((w2Src e h).view.read (Elt F) (w : Buf (Elt F) ((w2Src e h).view.loc (c : Thread nD τ)))) Finset.univ) : sProp 𝕄)
      = tilePts b2M c s (pair fun _ => w2Tile w e h) := by
  unfold tilePts
  rw [← tile_set]
  refine pointsTo_congr fun y hy => ?_
  obtain ⟨x, -, rfl⟩ := Finset.mem_map.mp hy
  refine (View.write_emb_of_mem (v := (tile b2M s).view) (Val := Elt F) f ((w2Src e h).view.read (Elt F) w) (Finset.mem_univ x)).trans ?_
  have key : ∀ j : S1x1024x1024.Idx, w ((w2Rect e h).idx j) = pair (fun _ => w2Tile w e h) ((tileRect s).idx j) :=
    fun j => (w2_idx w e h j).trans (pair_idx _ s j).symm
  exact key _

/-- A tile of the second weight in flight to buffer tile `s`, and the rest of that weight. -/
def fly2 (c : Dev nD) (s : Fin 2) (e : Fin 4) (h : Fin 2) (w : Vec F S4x2048x1024 .f32) : sProp 𝕄 :=
  iprop(Transfers.Flight (countersEmb (U := UU)) (c : Thread nD τ) (.dma (w2S s)) () NW
      iprop(tilePts b2M c s (pair fun _ => w2Tile w e h) ∗ (w2M.view.loc (c : Thread nD τ) ↦[(w2Src e h).view.set]{fullShare} w))
    ∗ (w2M.view.loc (c : Thread nD τ) ↦[Finset.univ \ (w2Src e h).view.set]{fullShare} w))

/-- A tile's copy of the second weight issued. -/
theorem copy2_step (s : Fin 2) (e : Fin 4) (h : Fin 2) (w : Vec F S4x2048x1024 .f32)
    {hsrc : (w2Src e h).view.WordExact} {hdst : (tile b2M s).view.WordExact}
    {hsem : DmaTarget.Typed (nD := nD) (τ := τ) (p := .tc) .hbm (.dma (w2S s)) (.here (tile b2M s))}
    {k : PUnit → Prog (TpuEff nD τ sig (Elt F) Λ₀ .tc) α} {Q : α → sProp 𝕄} :
    iprop(held w2M c w ∗ (∃ f, tilePts b2M c s f) ∗ wfree c (w2S s))
      ⊢ iprop((fly2 c s e h w -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (w2Src e h) (.here (tile b2M s)) (.dma (w2S s)) hsrc hdst hsem) k) Q) := by
  unfold wfree
  iintro ⟨Hw, ⟨%f, Hd⟩, Hv⟩ Hk
  ihave Hsplit := (pointsTo_split_subset (Finset.subset_univ ((w2Src e h).view.set))).1 $$ Hw
  icases Hsplit with ⟨Hs, Hr⟩
  iapply (Transfers.wp_dmaLocal (countersEmb (U := UU)) 𝒱₀ (c : Thread nD τ) none (src := w2Src e h) (dst := tile b2M s) (via := .same) (sm := .dma (w2S s)) (q := fullShare) (fs := w) (fd := f)
    (Sd := (tile b2M s).view.set) () NW rfl NW_pos (Finset.Subset.refl _)) $$ [Hs Hd Hv]
  · isplitl [Hs]; · iexact Hs
    isplitl [Hd]; · rw [tile_set]; iexact Hd
    iexact Hv
  iintro Hf
  iapply Hk
  unfold fly2
  isplitl [Hf]
  · rw [← w2_landed c s e h w f]; iexact Hf
  iexact Hr

/-- The wait for it: the tile holds that half, and the weight is whole again. -/
theorem land2_step (s : Fin 2) (e : Fin 4) (h : Fin 2) (w : Vec F S4x2048x1024 .f32) (n : ℕ) (hn : n ≤ 8) {W : Waits sig Unit}
    {sp sp' : Space} {s₁ s₂ : Shape} {e₁ e₂ : EltTy} {src : Memref sig .tc sp' s₂ e₂} {dst : Memref sig .tc sp s₁ e₁} {hsrc : src.view.WordExact} {hdst : dst.view.WordExact}
    (hN : dst.view.dmaCredit = NW) {k : PUnit → Prog (TpuEff nD τ sig (Elt F) Λ₀ .tc) α} {Q : α → sProp 𝕄} :
    iprop(fly2 c s e h w ∗ owes (c : Thread nD τ) (debt c n) W ∗ levAts L lv)
      ⊢ iprop(((∃ W, owes (c : Thread nD τ) (debt c n) W) ∗ held w2M c w ∗ tilePts b2M c s (pair fun _ => w2Tile w e h) ∗ wfree c (w2S s)
          -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (w2S s) src dst hsrc hdst) k) Q) := by
  unfold fly2 wfree
  iintro ⟨⟨Hf, Hr⟩, HO, Hlev⟩ Hk
  iapply (Transfers.wp_waitLocalO (countersEmb (U := UU)) 𝒱₀ (c : Thread nD τ) none () hN) $$ [Hf HO Hlev]
  · isplitl [Hf]; · iexact Hf
    isplitl [HO]; · iexact HO
    iapply (mayWait_w c (w2S s) (Nat.le_trans (by decide) (Nat.le_add_right _ _)) n hn); iexact Hlev
  iintro ⟨⟨Ht, Hs⟩, Hv, HO⟩
  iapply Hk
  isplitl [HO]; · iexists _; iexact HO
  isplitl [Hs Hr]
  · iapply (pointsTo_split_subset (Finset.subset_univ ((w2Src e h).view.set))).2
    isplitl [Hs]; · iexact Hs
    iexact Hr
  isplitl [Ht]; · iexact Ht
  iexact Hv

end Cert.KernelIdeal.Moe

end
-- ==== Proof.KernelIdeal.Kits.lean ====
/- What the body's parts take and leave: bundles of the exchange's resources, what each load reads, and the bands of the output. -/
module

public import proofs.«01_k».proof.Proof.KernelIdeal.Weights
public import Idealize.ShloMosaic.Lib.Tactic.Stretches

@[expose] public section

noncomputable section

namespace Cert.KernelIdeal.Moe

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ) {α : Type} (c : Dev nD)

/-- What a device still owes while `n` payments remain. -/
abbrev owing (n : ℕ) : sProp 𝕄 := iprop(∃ W, owes (c : Thread nD τ) (debt c n) W)
/-- What sending token slab `i` takes besides the slab. -/
def sendKit (i : Fin 4) : sProp 𝕄 :=
  iprop((∃ f, slabPts recvM (peer c) i f) ∗ dutyTok (ER (F := F)) (cellOn c (fsS i)) 0 () ∗ reached (ER (F := F)) (cellOn c (fsS i)) 0
    ∗ dutyTok (ER (F := F)) (cellOn (peer c) (frS i)) 0 () ∗ reached (ER (F := F)) (cellOn (peer c) (frS i)) 0)
/-- What sending result slab `i` back takes besides the slab. -/
def retKit (i : Fin 4) : sProp 𝕄 :=
  iprop((∃ f, slabPts backM (peer c) i f) ∗ dutyTok (ER (F := F)) (cellOn c (bsS i)) 0 () ∗ reached (ER (F := F)) (cellOn c (bsS i)) 0
    ∗ dutyTok (ER (F := F)) (cellOn (peer c) (brS i)) 0 () ∗ reached (ER (F := F)) (cellOn (peer c) (brS i)) 0)
/-- The right to wait on a cell of the exchange. -/
def ticket (n : DmaSem sig) : sProp 𝕄 := iprop(cred (tallyAt (cellOn c n) () N) ∗ atPos (ER (F := F)) (cellOn c n) 0 ∅ 0)
/-- That wait made. -/
abbrev spent (n : DmaSem sig) : sProp 𝕄 := atPos (ER (F := F)) (cellOn c n) 1 ∅ 0

theorem x_read (x : Vec F S2048x1024 .f32) : xM.view.readAt (Elt F) (Rect.unit (s := S2048x1024) ![0, 0] S2048x1024.size inb_S2048x1024_S2048x1024_0_0).toLoadRect x = x := by
  funext j
  show x _ = x j
  congr 1
  funext a
  exact Fin.ext (by match a with
    | ⟨0, _⟩ => show 0 + 1 * (j 0 : ℕ) = (j 0 : ℕ); omega
    | ⟨1, _⟩ => show 0 + 1 * (j 1 : ℕ) = (j 1 : ℕ); omega)
theorem a_read (a : Vec F S1x2048 .i32) : aM.view.readAt (Elt F) (Rect.unit (s := S1x2048) ![0, 0] S1x2048.size inb_S1x2048_S1x2048_0_0).toLoadRect a = a := by
  funext j
  show a _ = a j
  congr 1
  funext b
  exact Fin.ext (by match b with
    | ⟨0, _⟩ => show 0 + 1 * (j 0 : ℕ) = (j 0 : ℕ); omega
    | ⟨1, _⟩ => show 0 + 1 * (j 1 : ℕ) = (j 1 : ℕ); omega)
theorem four_read (M : Memref sig .tc .vmem S4x288x1024 .bf16) (y : Vec F S4x288x1024 .bf16) (f : Buf (Elt F) (M.view.loc (c : Thread nD τ)))
    (hf : ∀ j, M.view.read (Elt F) f j = y j) :
    M.view.readAt (Elt F) (Rect.unit (s := S4x288x1024) ![0, 0, 0] S4x288x1024.size inb_S4x288x1024_S4x288x1024_0_0_0).toLoadRect f = y := by
  funext j
  refine (hf _).trans ?_
  congr 1
  funext b
  exact Fin.ext (by match b with
    | ⟨0, _⟩ => show 0 + 1 * (j 0 : ℕ) = (j 0 : ℕ); omega
    | ⟨1, _⟩ => show 0 + 1 * (j 1 : ℕ) = (j 1 : ℕ); omega
    | ⟨2, _⟩ => show 0 + 1 * (j 2 : ℕ) = (j 2 : ℕ); omega)
theorem mine_read (y : Vec F S4x288x1024 .bf16) :
    mineM.view.readAt (Elt F) (Rect.unit (s := S4x288x1024) ![0, 0, 0] S4x288x1024.size inb_S4x288x1024_S4x288x1024_0_0_0).toLoadRect y = y :=
  four_read (0 : Dev nD) mineM y y fun _ => rfl
theorem back_read (y : Vec F S4x288x1024 .bf16) :
    backM.view.readAt (Elt F) (Rect.unit (s := S4x288x1024) ![0, 0, 0] S4x288x1024.size inb_S4x288x1024_S4x288x1024_0_0_0).toLoadRect y = y :=
  four_read (0 : Dev nD) backM y y fun _ => rfl
theorem recv_read0 (v : Fin 4 → Vec F S1x288x1024 .bf16) :
    recvM.view.readAt (Elt F) (Rect.unit (s := S4x288x1024) ![0, 0, 0] S1x288x1024.size inb_S4x288x1024_S1x288x1024_0_0_0).toLoadRect (stack v) = v 0 :=
  stack_read v 0
theorem recv_read1 (v : Fin 4 → Vec F S1x288x1024 .bf16) :
    recvM.view.readAt (Elt F) (Rect.unit (s := S4x288x1024) ![1, 0, 0] S1x288x1024.size inb_S4x288x1024_S1x288x1024_1_0_0).toLoadRect (stack v) = v 1 :=
  stack_read v 1
theorem recv_read2 (v : Fin 4 → Vec F S1x288x1024 .bf16) :
    recvM.view.readAt (Elt F) (Rect.unit (s := S4x288x1024) ![2, 0, 0] S1x288x1024.size inb_S4x288x1024_S1x288x1024_2_0_0).toLoadRect (stack v) = v 2 :=
  stack_read v 2
theorem recv_read3 (v : Fin 4 → Vec F S1x288x1024 .bf16) :
    recvM.view.readAt (Elt F) (Rect.unit (s := S4x288x1024) ![3, 0, 0] S1x288x1024.size inb_S4x288x1024_S1x288x1024_3_0_0).toLoadRect (stack v) = v 3 :=
  stack_read v 3
theorem t1_read0 (v : Vec F S1x1024x1024 .f32) :
    b1M.view.readAt (Elt F) (Rect.unit (s := S2x1024x1024) ![0, 0, 0] S1x1024x1024.size inb_S2x1024x1024_S1x1024x1024_0_0_0).toLoadRect (pair fun _ => v) = v :=
  funext (pair_idx v 0)
theorem t1_read1 (v : Vec F S1x1024x1024 .f32) :
    b1M.view.readAt (Elt F) (Rect.unit (s := S2x1024x1024) ![1, 0, 0] S1x1024x1024.size inb_S2x1024x1024_S1x1024x1024_1_0_0).toLoadRect (pair fun _ => v) = v :=
  funext (pair_idx v 1)
theorem t2_read0 (v : Vec F S1x1024x1024 .f32) :
    b2M.view.readAt (Elt F) (Rect.unit (s := S2x1024x1024) ![0, 0, 0] S1x1024x1024.size inb_S2x1024x1024_S1x1024x1024_0_0_0).toLoadRect (pair fun _ => v) = v :=
  funext (pair_idx v 0)
theorem t2_read1 (v : Vec F S1x1024x1024 .f32) :
    b2M.view.readAt (Elt F) (Rect.unit (s := S2x1024x1024) ![1, 0, 0] S1x1024x1024.size inb_S2x1024x1024_S1x1024x1024_1_0_0).toLoadRect (pair fun _ => v) = v :=
  funext (pair_idx v 1)
theorem dev2 (c : Dev nD) : (⟨k0_dev2 c, k0_dev2_lt c⟩ : Dev nD) = peer c := by revert c; decide
theorem dev3 (c : Dev nD) : (⟨k0_dev3 c, k0_dev3_lt c⟩ : Dev nD) = peer c := by revert c; decide
theorem dev4 (c : Dev nD) : (⟨k0_dev4 c, k0_dev4_lt c⟩ : Dev nD) = peer c := by revert c; decide
theorem dev5 (c : Dev nD) : (⟨k0_dev5 c, k0_dev5_lt c⟩ : Dev nD) = peer c := by revert c; decide
theorem dev6 (c : Dev nD) : (⟨k0_dev6 c, k0_dev6_lt c⟩ : Dev nD) = peer c := by revert c; decide
theorem dev7 (c : Dev nD) : (⟨k0_dev7 c, k0_dev7_lt c⟩ : Dev nD) = peer c := by revert c; decide
theorem dev8 (c : Dev nD) : (⟨k0_dev8 c, k0_dev8_lt c⟩ : Dev nD) = peer c := by revert c; decide
theorem dev9 (c : Dev nD) : (⟨k0_dev9 c, k0_dev9_lt c⟩ : Dev nD) = peer c := by revert c; decide

/-! ## Bands of the output -/

theorem inb_band (i : Fin 4) : ∀ a : Fin S2048x1024.rank, (![512 * i.val, 0] : Fin 2 → ℕ) a + S512x1024.size a ≤ S2048x1024.size a := by
  revert i; decide
/-- Rows `512 i` to `512 i + 511` of the output. -/
abbrev bandRect (i : Fin 4) : Rect S2048x1024 := Rect.unit (s := S2048x1024) ![512 * i.val, 0] S512x1024.size (inb_band i)
/-- The output buffer held at band `i`. -/
abbrev bandPts (i : Fin 4) (f : Buf (Elt F) (oM.view.loc (c : Thread nD τ))) : sProp 𝕄 :=
  oM.view.loc (c : Thread nD τ) ↦[oM.view.setOn (bandRect i).set]{fullShare} f

theorem mem_bandRect (i : Fin 4) (x : S2048x1024.Idx) : x ∈ (bandRect i).set ↔ (x 0 : ℕ) / 512 = i.val := by
  rw [Rect.mem_set_unit]
  constructor
  · intro h
    have h0 : 512 * i.val ≤ (x 0 : ℕ) ∧ (x 0 : ℕ) < 512 * i.val + 512 := h 0
    omega
  · intro h a
    match a with
    | ⟨0, _⟩ => show 512 * i.val ≤ (x 0 : ℕ) ∧ (x 0 : ℕ) < 512 * i.val + 512; omega
    | ⟨1, _⟩ => exact ⟨Nat.zero_le _, by show (x 1 : ℕ) < 0 + 1024; have := (x 1).isLt; change _ < 1024 at this; omega⟩

theorem band_disjoint {i j : Fin 4} (h : i ≠ j) : Disjoint (oM.view.setOn (bandRect i).set) (oM.view.setOn (bandRect j).set) := by
  unfold View.setOn
  rw [Finset.disjoint_map, Finset.disjoint_left]
  intro x hi hj
  exact h (Fin.ext (((mem_bandRect i x).mp hi).symm.trans ((mem_bandRect j x).mp hj)))

/-- The whole output buffer is its four bands. -/
theorem bands_split (f : Buf (Elt F) (oM.view.loc (c : Thread nD τ))) :
    (oM.view.loc (c : Thread nD τ) ↦{fullShare} f : sProp 𝕄) = iprop(bandPts c 0 f ∗ bandPts c 1 f ∗ bandPts c 2 f ∗ bandPts c 3 f) := by
  have hu : (Finset.univ : Finset oM.view.ty.Idx)
      = oM.view.setOn (bandRect 0).set ∪ (oM.view.setOn (bandRect 1).set ∪ (oM.view.setOn (bandRect 2).set ∪ oM.view.setOn (bandRect 3).set)) := by
    refine Finset.Subset.antisymm (fun y hy => ?_) (fun y _ => Finset.mem_univ y)
    have m (i : Fin 4) (h : ((y : S2048x1024.Idx) 0 : ℕ) / 512 = i.val) : y ∈ oM.view.setOn (bandRect i).set :=
      oM.view.mem_setOn.mpr ((mem_bandRect i y).mpr h)
    have hlt : ((y : S2048x1024.Idx) 0 : ℕ) < 2048 := ((y : S2048x1024.Idx) 0).isLt
    have hk : ((y : S2048x1024.Idx) 0 : ℕ) / 512 = (0 : Fin 4).val ∨ ((y : S2048x1024.Idx) 0 : ℕ) / 512 = (1 : Fin 4).val
        ∨ ((y : S2048x1024.Idx) 0 : ℕ) / 512 = (2 : Fin 4).val ∨ ((y : S2048x1024.Idx) 0 : ℕ) / 512 = (3 : Fin 4).val := by
      show _ = 0 ∨ _ = 1 ∨ _ = 2 ∨ _ = 3
      omega
    rcases hk with h | h | h | h
    · exact Finset.mem_union_left _ (m 0 h)
    · exact Finset.mem_union_right _ (Finset.mem_union_left _ (m 1 h))
    · exact Finset.mem_union_right _ (Finset.mem_union_right _ (Finset.mem_union_left _ (m 2 h)))
    · exact Finset.mem_union_right _ (Finset.mem_union_right _ (Finset.mem_union_right _ (m 3 h)))
  have d01 := band_disjoint (i := 0) (j := 1) (by decide)
  have d02 := band_disjoint (i := 0) (j := 2) (by decide)
  have d03 := band_disjoint (i := 0) (j := 3) (by decide)
  have d12 := band_disjoint (i := 1) (j := 2) (by decide)
  have d13 := band_disjoint (i := 1) (j := 3) (by decide)
  have d23 := band_disjoint (i := 2) (j := 3) (by decide)
  show (oM.view.loc (c : Thread nD τ) ↦[Finset.univ]{fullShare} f : sProp 𝕄) = _
  unfold bandPts
  rw [show (Finset.univ : Finset (Idx (oM.view.loc (c : Thread nD τ)))) = _ from hu]
  have e1 := pointsTo_union (ℓ := oM.view.loc (c : Thread nD τ)) (q := fullShare) (f := f) (Ix := Unit) (Name := ℕ) (U := UU) (Lvl := ℕ) (Finset.disjoint_union_right.mpr ⟨d01, Finset.disjoint_union_right.mpr ⟨d02, d03⟩⟩)
  have e2 := pointsTo_union (ℓ := oM.view.loc (c : Thread nD τ)) (q := fullShare) (f := f) (Ix := Unit) (Name := ℕ) (U := UU) (Lvl := ℕ) (Finset.disjoint_union_right.mpr ⟨d12, d13⟩)
  have e3 := pointsTo_union (ℓ := oM.view.loc (c : Thread nD τ)) (q := fullShare) (f := f) (Ix := Unit) (Name := ℕ) (U := UU) (Lvl := ℕ) d23
  rw [Entails.antisymm e1.1 e1.2, Entails.antisymm e2.1 e2.2, Entails.antisymm e3.1 e3.2]

/-- The bands of `outC v` are the `v i`. -/
theorem outC_idx (v : Fin 4 → Vec F S512x1024 .f32) (i : Fin 4) (j : (bandRect i).shape.Idx) : outC v ((bandRect i).idx j) = v i j := by
  have h0 : (j 0 : ℕ) < 512 := (j 0).isLt
  have e0 : (((bandRect i).idx j 0 : Fin 2048) : ℕ) = 512 * i.val + (j 0 : ℕ) := by show 512 * i.val + 1 * (j 0 : ℕ) = _; omega
  unfold outC
  refine congr (congrArg v (Fin.ext ?_)) (funext fun a => ?_)
  · show (((bandRect i).idx j 0 : Fin 2048) : ℕ) / 512 = i.val; omega
  · match a with
    | ⟨0, _⟩ => exact Fin.ext (by show (((bandRect i).idx j 0 : Fin 2048) : ℕ) % 512 = (j 0 : ℕ); omega)
    | ⟨1, _⟩ => exact Fin.ext (by show 0 + 1 * (j 1 : ℕ) = (j 1 : ℕ); omega)

/-- A band stored is the stack's. -/
theorem band_stored (i : Fin 4) (v : Fin 4 → Vec F S512x1024 .f32) (f : Buf (Elt F) (oM.view.loc (c : Thread nD τ))) :
    (bandPts c i (View.writes oM.view (Elt F) f [⟨bandRect i, v i⟩]) : sProp 𝕄) = bandPts c i (outC v) := by
  refine pointsTo_congr fun y hy => ?_
  obtain ⟨x, hx, rfl⟩ := Finset.mem_map.mp hy
  obtain ⟨j, rfl⟩ := (bandRect i).exists_idx_of_mem hx
  rw [View.writes_singleton]
  exact (View.write_emb_of_mem (v := oM.view.slice (bandRect i)) (Val := Elt F) f (v i) (Finset.mem_univ j)).trans (outC_idx v i j).symm
theorem out_read0 (v : Fin 4 → Vec F S512x1024 .f32) :
    oM.view.readAt (Elt F) (Rect.unit (s := S2048x1024) ![0, 0] S512x1024.size inb_S2048x1024_S512x1024_0_0).toLoadRect (outC v) = v 0 :=
  funext (outC_idx v 0)
theorem out_read1 (v : Fin 4 → Vec F S512x1024 .f32) :
    oM.view.readAt (Elt F) (Rect.unit (s := S2048x1024) ![512, 0] S512x1024.size inb_S2048x1024_S512x1024_512_0).toLoadRect (outC v) = v 1 :=
  funext (outC_idx v 1)
theorem out_read2 (v : Fin 4 → Vec F S512x1024 .f32) :
    oM.view.readAt (Elt F) (Rect.unit (s := S2048x1024) ![1024, 0] S512x1024.size inb_S2048x1024_S512x1024_1024_0).toLoadRect (outC v) = v 2 :=
  funext (outC_idx v 2)
theorem out_read3 (v : Fin 4 → Vec F S512x1024 .f32) :
    oM.view.readAt (Elt F) (Rect.unit (s := S2048x1024) ![1536, 0] S512x1024.size inb_S2048x1024_S512x1024_1536_0).toLoadRect (outC v) = v 3 :=
  funext (outC_idx v 3)

end Cert.KernelIdeal.Moe

end
-- ==== Proof.KernelIdeal.PartsA.lean ====
/- The body's parts 1 to 10. -/
module

public import proofs.«01_k».proof.Proof.KernelIdeal.Kits
public import Idealize.ShloMosaic.Lib.Tactic.Stretches

@[expose] public section

noncomputable section

namespace Cert.KernelIdeal.Moe

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ) {α : Type} (c : Dev nD)

/-- Part 1: the first two weight tiles' copies, and the signal to the peer. -/
theorem part1 (w1 : Vec F S4x1024x2048 .f32)(w2 : Vec F S4x2048x1024 .f32) {Q : α → sProp 𝕄} {k : _ → Prog (TpuEff nD τ sig (Elt F) Λ₀ .tc) α} :
    iprop(invs m K ∗ levAts L lv ∗ held w1M c w1 ∗ held w2M c w2 ∗ (∃ f, tilePts b1M c 0 f) ∗ (∃ f, tilePts b2M c 0 f) ∗ wfree c (w1S 0) ∗ wfree c (w2S 0) ∗ owing c 9 ∗ dutyTok (ER (F := F)) (barCell (peer c)) 0 () ∗ reached (ER (F := F)) (barCell (peer c)) 0 ∗ give c 0 ∗ give c 1 ∗ give c 2 ∗ give c 3)
      ⊢ iprop((fly1 c 0 0 0 w1 ∗ fly2 c 0 0 0 w2 ∗ owing c 8 -∗ wp frame (wpE (defs₀ (F := F)) 𝒱₀ (c : Thread nD τ) none) Set.univ (k ⟨c, Scalar.remsi (Scalar.divsi (Dev.word c) 4#32) 2#32, myWord c, Scalar.remsi (Scalar.divsi (Dev.word c) 1#32) 2#32, Scalar.subi 1#32 (myWord c), SemArray.scalar (sig.barrier 0 rfl)⟩) Q)
          -∗ wp frame (wpE (defs₀ (F := F)) 𝒱₀ (c : Thread nD τ) none) Set.univ (k0_part1 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12  >>= k) Q) := by
  rw [k0_part1_eq_skeleton]; unfold k0_part1_skel
  iintro ⟨#HI, #HL, H1, H2, ⟨%fb10, Hb10⟩, ⟨%fb20, Hb20⟩, Hf10, Hf20, ⟨%W, HO⟩, Ht, Hr, Hg0, Hg1, Hg2, Hg3⟩ Hk
  sl_exec
  iapply (copy1_step c 0 0 0 w1) $$ [H1 Hb10 Hf10]
  · isplitl [H1]; · iexact H1
    isplitl [Hb10]; · iexists _; iexact Hb10
    iexact Hf10
  iintro Hfly1
  (try sl_exec)
  iapply (copy2_step c 0 0 0 w2) $$ [H2 Hb20 Hf20]
  · isplitl [H2]; · iexact H2
    isplitl [Hb20]; · iexists _; iexact Hb20
    iexact Hf20
  iintro Hfly2
  (try sl_exec)
  iapply (signal_step m K c ⟨k0_dev1 c, k0_dev1_lt c⟩ (dev1 c)) $$ [HO Ht Hr Hg0 Hg1 Hg2 Hg3]
  · isplitr; · iexact HI
    iframe
  iintro HO
  sl_exec
  sl_open_run
  iapply Hk
  iframe
  iexists _; iexact HO
/-- Part 2: the wait for the peer's signal, and the assignment row. -/
theorem part2 (a : Vec F S1x2048 .i32) {Q : α → sProp 𝕄} {k : _ → Prog (TpuEff nD τ sig (Elt F) Λ₀ .tc) α} :
    iprop(invs m K ∗ levAts L lv ∗ owing c 8 ∗ cred (tallyAt (barCell c) () 1) ∗ atPos (ER (F := F)) (barCell c) 0 ∅ 0 ∗ held aM c a)
      ⊢ iprop((owing c 8 ∗ atPos (ER (F := F)) (barCell c) 1 ∅ 0 ∗ give (peer c) 0 ∗ give (peer c) 1 ∗ give (peer c) 2 ∗ give (peer c) 3 ∗ held aM c a -∗ wp frame (wpE (defs₀ (F := F)) 𝒱₀ (c : Thread nD τ) none) Set.univ (k ⟨k0_pay1 a, k0_pay2 a, k0_pay3 a, k0_pay4 a⟩) Q)
          -∗ wp frame (wpE (defs₀ (F := F)) 𝒱₀ (c : Thread nD τ) none) Set.univ (k0_part2 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 (SemArray.scalar (sig.barrier 0 rfl)) >>= k) Q) := by
  rw [k0_part2_eq_skeleton]; unfold k0_part2_skel
  iintro ⟨#HI, #HL, ⟨%W, HO⟩, Hcr, Hat, Ha⟩ Hk
  sl_exec
  iapply (barrier_step m K c) $$ [HO Hcr Hat]
  · isplitr; · iexact HI
    isplitl [Hcr]; · iexact Hcr
    isplitl [HO]; · iexact HO
    isplitr; · iexact HL
    iexact Hat
  iintro ⟨⟨%W, HO⟩, Hat, Hg0, Hg1, Hg2, Hg3⟩
  sl_exec
  sl_open_run
  rw [a_read]
  iapply Hk
  iframe
  iexists _; iexact HO
/-- Part 3: the routing words. -/
theorem part3 (my : BitVec 32) (v30 v35 v71 v74) {Q : α → sProp 𝕄} {k : _ → Prog (TpuEff nD τ sig (Elt F) Λ₀ .tc) α} :
    iprop(emp)
      ⊢ iprop((emp -∗ wp frame (wpE (defs₀ (F := F)) 𝒱₀ (c : Thread nD τ) none) Set.univ (k ⟨k0_pay5 v35 v71 v74, k0_pay6 my v30, k0_pay7 my v30 v35 v71 v74, theirsBase my⟩) Q)
          -∗ wp frame (wpE (defs₀ (F := F)) 𝒱₀ (c : Thread nD τ) none) Set.univ (k0_part3 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 my v30 v35 v71 v74 >>= k) Q) := by
  rw [k0_part3_eq_skeleton]; unfold k0_part3_skel
  iintro - Hk
  sl_exec
  iapply Hk
  iempintro
/-- Part 4: the tokens, and the first slab for the peer. -/
theorem part4 (x : Vec F S2048x1024 .f32) (v2 v8 v9 : BitVec 32) (v30 v83 v109 v119) (hv : sentOf m c 0 = k0_pay10 v30 v83 v109 v119 x) {Q : α → sProp 𝕄} {k : _ → Prog (TpuEff nD τ sig (Elt F) Λ₀ .tc) α} :
    iprop(invs m K ∗ levAts L lv ∗ held xM c x ∗ (∃ f, slabPts sentM c 0 f))
      ⊢ iprop((held xM c x ∗ slabPts sentM c 0 (stack (sentOf m c)) -∗ wp frame (wpE (defs₀ (F := F)) 𝒱₀ (c : Thread nD τ) none) Set.univ (k ⟨k0_pay8 v30 v83 v109 v119, k0_pay9 x⟩) Q)
          -∗ wp frame (wpE (defs₀ (F := F)) 𝒱₀ (c : Thread nD τ) none) Set.univ (k0_part4 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 v2 v8 v9 v30 v83 v109 v119 >>= k) Q) := by
  rw [k0_part4_eq_skeleton]; unfold k0_part4_skel
  iintro ⟨#HI, #HL, Hx, ⟨%fs0, Hs0⟩⟩ Hk
  sl_exec
  sl_open_run
  rw [x_read]
  rw [← hv]
  ihave Hs0 : (slabPts sentM c 0 (stack (sentOf m c))) $$ [Hs0]
  · rw [← sent_stored c 0 (sentOf m c) fs0]; iexact Hs0
  iapply Hk
  iframe
/-- Part 5: the first slab sent, the second stored and sent. -/
theorem part5 (v2 v8 v9 : BitVec 32) (v126 v129) (hv : sentOf m c 1 = k0_pay11 v126 v129) {Q : α → sProp 𝕄} {k : _ → Prog (TpuEff nD τ sig (Elt F) Λ₀ .tc) α} :
    iprop(invs m K ∗ levAts L lv ∗ slabPts sentM c 0 (stack (sentOf m c)) ∗ (∃ f, slabPts sentM c 1 f) ∗ owing c 8 ∗ sendKit c 0 ∗ sendKit c 1)
      ⊢ iprop((cred (tallyAt (cellOn c (fsS 0)) () N) ∗ cred (tallyAt (cellOn c (fsS 1)) () N) ∗ owing c 6 -∗ wp frame (wpE (defs₀ (F := F)) 𝒱₀ (c : Thread nD τ) none) Set.univ (k (k0_pay12 v126 v129)) Q)
          -∗ wp frame (wpE (defs₀ (F := F)) 𝒱₀ (c : Thread nD τ) none) Set.univ (k0_part5 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 c v2 v8 v9 v126 v129 >>= k) Q) := by
  rw [k0_part5_eq_skeleton]; unfold k0_part5_skel
  iintro ⟨#HI, #HL, Hs0, ⟨%fs1, Hs1⟩, ⟨%W, HO⟩, Hkit, Hkit1⟩ Hk
  sl_exec
  unfold sendKit
  icases Hkit with ⟨Hd, Ht1, Hq1, Ht2, Hq2⟩
  iapply (send_step m K c 0 ⟨k0_dev2 c, k0_dev2_lt c⟩ (dev2 c) (O₁ := debt c 8) (O := debt c 7) rfl) $$ [Hs0 HO Hd Ht1 Hq1 Ht2 Hq2]
  · isplitr; · iexact HI
    iframe
  iintro ⟨Hc0, HO⟩
  (try sl_exec)
  rw [← hv]
  ihave Hs1 : (slabPts sentM c 1 (stack (sentOf m c))) $$ [Hs1]
  · rw [← sent_stored c 1 (sentOf m c) fs1]; iexact Hs1
  irename Hkit1 => Hkit
  icases Hkit with ⟨Hd, Ht1, Hq1, Ht2, Hq2⟩
  iapply (send_step m K c 1 ⟨k0_dev3 c, k0_dev3_lt c⟩ (dev3 c) (O₁ := debt c 7) (O := debt c 6) rfl) $$ [Hs1 HO Hd Ht1 Hq1 Ht2 Hq2]
  · isplitr; · iexact HI
    iframe
  iintro ⟨Hc1, HO⟩
  (try sl_exec)
  iapply Hk
  iframe
  iexists _; iexact HO
/-- Part 6: the third slab stored and sent, the fourth stored. -/
theorem part6 (v2 v8 v9 : BitVec 32) (v126 v129 v195) (hv2 : sentOf m c 2 = k0_pay13 v195) (hv3 : sentOf m c 3 = k0_pay14 v126 v129) {Q : α → sProp 𝕄} {k : _ → Prog (TpuEff nD τ sig (Elt F) Λ₀ .tc) α} :
    iprop(invs m K ∗ levAts L lv ∗ (∃ f, slabPts sentM c 2 f) ∗ (∃ f, slabPts sentM c 3 f) ∗ owing c 6 ∗ sendKit c 2)
      ⊢ iprop((cred (tallyAt (cellOn c (fsS 2)) () N) ∗ slabPts sentM c 3 (stack (sentOf m c)) ∗ owing c 5 -∗ wp frame (wpE (defs₀ (F := F)) 𝒱₀ (c : Thread nD τ) none) Set.univ (k 4#32) Q)
          -∗ wp frame (wpE (defs₀ (F := F)) 𝒱₀ (c : Thread nD τ) none) Set.univ (k0_part6 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 c v2 v8 v9 v126 v129 v195 >>= k) Q) := by
  rw [k0_part6_eq_skeleton]; unfold k0_part6_skel
  iintro ⟨#HI, #HL, ⟨%fs2, Hs2⟩, ⟨%fs3, Hs3⟩, ⟨%W, HO⟩, Hkit⟩ Hk
  sl_exec
  rw [← hv2]
  ihave Hs2 : (slabPts sentM c 2 (stack (sentOf m c))) $$ [Hs2]
  · rw [← sent_stored c 2 (sentOf m c) fs2]; iexact Hs2
  unfold sendKit
  icases Hkit with ⟨Hd, Ht1, Hq1, Ht2, Hq2⟩
  iapply (send_step m K c 2 ⟨k0_dev4 c, k0_dev4_lt c⟩ (dev4 c) (O₁ := debt c 6) (O := debt c 5) rfl) $$ [Hs2 HO Hd Ht1 Hq1 Ht2 Hq2]
  · isplitr; · iexact HI
    iframe
  iintro ⟨Hc2, HO⟩
  (try sl_exec)
  rw [← hv3]
  ihave Hs3 : (slabPts sentM c 3 (stack (sentOf m c))) $$ [Hs3]
  · rw [← sent_stored c 3 (sentOf m c) fs3]; iexact Hs3
  iapply Hk
  iframe
  iexists _; iexact HO
/-- Part 7: the fourth slab sent, the first weight tile landed. -/
theorem part7 (v2 v8 v9 : BitVec 32) (v117 v129 v230) (w1 : Vec F S4x1024x2048 .f32) {Q : α → sProp 𝕄} {k : _ → Prog (TpuEff nD τ sig (Elt F) Λ₀ .tc) α} :
    iprop(invs m K ∗ levAts L lv ∗ slabPts sentM c 3 (stack (sentOf m c)) ∗ owing c 5 ∗ sendKit c 3 ∗ fly1 c 0 0 0 w1)
      ⊢ iprop((cred (tallyAt (cellOn c (fsS 3)) () N) ∗ owing c 4 ∗ held w1M c w1 ∗ tilePts b1M c 0 (pair fun _ => w1Tile w1 0 0) ∗ wfree c (w1S 0) -∗ wp frame (wpE (defs₀ (F := F)) 𝒱₀ (c : Thread nD τ) none) Set.univ (k ⟨k0_pay15 v117 v129, k0_pay16, k0_pay17⟩) Q)
          -∗ wp frame (wpE (defs₀ (F := F)) 𝒱₀ (c : Thread nD τ) none) Set.univ (k0_part7 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 c v2 v8 v9 v117 v129 v230 >>= k) Q) := by
  rw [k0_part7_eq_skeleton]; unfold k0_part7_skel
  iintro ⟨#HI, #HL, Hs3, ⟨%W, HO⟩, Hkit, Hfly1⟩ Hk
  sl_exec
  unfold sendKit
  icases Hkit with ⟨Hd, Ht1, Hq1, Ht2, Hq2⟩
  iapply (send_step m K c 3 ⟨k0_dev5 c, k0_dev5_lt c⟩ (dev5 c) (O₁ := debt c 5) (O := debt c 4) rfl) $$ [Hs3 HO Hd Ht1 Hq1 Ht2 Hq2]
  · isplitr; · iexact HI
    iframe
  iintro ⟨Hc3, HO⟩
  (try sl_exec)
  iapply (land1_step c 0 0 0 w1 4 (by decide) (dst := tile b1M 0) rfl) $$ [Hfly1 HO]
  · isplitl [Hfly1]; · iexact Hfly1
    isplitl [HO]; · iexact HO
    iexact HL
  iintro ⟨⟨%W, HO⟩, H1, Hb10, Hf10⟩
  (try sl_exec)
  iapply Hk
  iframe
  iexists _; iexact HO
/-- Part 8: expert 0's first halves used while its second halves are copied. -/
theorem part8 (v2 : BitVec 32) (v252 v254) (w1 : Vec F S4x1024x2048 .f32)(w2 : Vec F S4x2048x1024 .f32) {Q : α → sProp 𝕄} {k : _ → Prog (TpuEff nD τ sig (Elt F) Λ₀ .tc) α} :
    iprop(invs m K ∗ levAts L lv ∗ owing c 4 ∗ fly2 c 0 0 0 w2 ∗ held w1M c w1 ∗ tilePts b1M c 0 (pair fun _ => w1Tile w1 0 0) ∗ (∃ f, tilePts b1M c 1 f) ∗ (∃ f, tilePts b2M c 1 f) ∗ wfree c (w1S 1) ∗ wfree c (w2S 1))
      ⊢ iprop((owing c 4 ∗ fly1 c 1 0 1 w1 ∗ fly2 c 1 0 1 w2 ∗ tilePts b1M c 0 (pair fun _ => w1Tile w1 0 0) ∗ tilePts b2M c 0 (pair fun _ => w2Tile w2 0 0) ∗ wfree c (w2S 0) -∗ wp frame (wpE (defs₀ (F := F)) 𝒱₀ (c : Thread nD τ) none) Set.univ (k ⟨k0_pay18 (w1Tile w1 0 0), k0_pay19 (w2Tile w2 0 0), k0_pay20 v252 v254 (w1Tile w1 0 0) (w2Tile w2 0 0), Scalar.muli v2 4#32⟩) Q)
          -∗ wp frame (wpE (defs₀ (F := F)) 𝒱₀ (c : Thread nD τ) none) Set.univ (k0_part8 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 v2 v252 v254 >>= k) Q) := by
  rw [k0_part8_eq_skeleton]; unfold k0_part8_skel
  iintro ⟨#HI, #HL, ⟨%W, HO⟩, Hfly2, H1, Hb10, ⟨%fb11, Hb11⟩, ⟨%fb21, Hb21⟩, Hf11, Hf21⟩ Hk
  sl_exec
  iapply (land2_step c 0 0 0 w2 4 (by decide) (dst := tile b2M 0) rfl) $$ [Hfly2 HO]
  · isplitl [Hfly2]; · iexact Hfly2
    isplitl [HO]; · iexact HO
    iexact HL
  iintro ⟨⟨%W, HO⟩, H2, Hb20, Hf20⟩
  (try sl_exec)
  iapply (copy1_step c 1 0 1 w1) $$ [H1 Hb11 Hf11]
  · isplitl [H1]; · iexact H1
    isplitl [Hb11]; · iexists _; iexact Hb11
    iexact Hf11
  iintro Hfly1
  (try sl_exec)
  iapply (copy2_step c 1 0 1 w2) $$ [H2 Hb21 Hf21]
  · isplitl [H2]; · iexact H2
    isplitl [Hb21]; · iexists _; iexact Hb21
    iexact Hf21
  iintro Hfly2
  (try sl_exec)
  sl_open_run
  rw [t1_read0, t2_read0]
  iapply Hk
  iframe
  iexists _; iexact HO
/-- Part 9: the peer's first slab received. -/
theorem part9 (v8 v9 : BitVec 32) (v253 v280 v282 v289) (r : Fin 4 → Vec F S1x288x1024 .bf16) (hr : sentOf m (peer c) = r) (w1 : Vec F S4x1024x2048 .f32) {Q : α → sProp 𝕄} {k : _ → Prog (TpuEff nD τ sig (Elt F) Λ₀ .tc) α} :
    iprop(invs m K ∗ levAts L lv ∗ owing c 4 ∗ ticket c (frS 0) ∗ fly1 c 1 0 1 w1)
      ⊢ iprop((owing c 4 ∗ spent c (frS 0) ∗ slabPts recvM c 0 (stack r) ∗ held w1M c w1 ∗ tilePts b1M c 1 (pair fun _ => w1Tile w1 0 1) ∗ wfree c (w1S 1) -∗ wp frame (wpE (defs₀ (F := F)) 𝒱₀ (c : Thread nD τ) none) Set.univ (k ⟨k0_pay21 (r 0), k0_pay22 v253 v280 v282 (r 0)⟩) Q)
          -∗ wp frame (wpE (defs₀ (F := F)) 𝒱₀ (c : Thread nD τ) none) Set.univ (k0_part9 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 v8 v9 v253 v280 v282 v289 >>= k) Q) := by
  rw [k0_part9_eq_skeleton]; unfold k0_part9_skel
  iintro ⟨#HI, #HL, ⟨%W, HO⟩, Htickfr0, Hfly1⟩ Hk
  sl_exec
  subst hr
  iapply (wait_step m K c (frS 0) (talks_fr 0) (O := debt c 4) (by rw [lv_fr]; exact above_debt4 c 4 (by decide)) (dst := slab recvM 0) rfl) $$ [HO Htickfr0]
  · unfold ticket
    icases Htickfr0 with ⟨Hcr, Hat⟩
    isplitr; · iexact HI
    isplitl [Hcr]; · iexact Hcr
    isplitl [HO]; · iexact HO
    isplitr; · iexact HL
    iexact Hat
  rw [pay_fr]
  iintro ⟨⟨%W, HO⟩, Hspfr0, Hv0⟩
  (try sl_exec)
  iapply (land1_step c 1 0 1 w1 4 (by decide) (dst := tile b1M 1) rfl) $$ [Hfly1 HO]
  · isplitl [Hfly1]; · iexact Hfly1
    isplitl [HO]; · iexact HO
    iexact HL
  iintro ⟨⟨%W, HO⟩, H1, Hb11, Hf11⟩
  (try sl_exec)
  sl_open_run
  rw [recv_read0]
  iapply Hk
  iframe
  iexists _; iexact HO
/-- Part 10: expert 0's second halves used, expert 1's first copied. -/
theorem part10 (v252 v288 v302 v308) (w1 : Vec F S4x1024x2048 .f32)(w2 : Vec F S4x2048x1024 .f32) {Q : α → sProp 𝕄} {k : _ → Prog (TpuEff nD τ sig (Elt F) Λ₀ .tc) α} :
    iprop(invs m K ∗ levAts L lv ∗ owing c 4 ∗ fly2 c 1 0 1 w2 ∗ held w1M c w1 ∗ tilePts b1M c 1 (pair fun _ => w1Tile w1 0 1) ∗ tilePts b1M c 0 (pair fun _ => w1Tile w1 0 0) ∗ tilePts b2M c 0 (pair fun _ => w2Tile w2 0 0) ∗ wfree c (w1S 0) ∗ wfree c (w2S 0))
      ⊢ iprop((owing c 4 ∗ fly1 c 0 1 0 w1 ∗ fly2 c 0 1 0 w2 ∗ tilePts b1M c 1 (pair fun _ => w1Tile w1 0 1) ∗ tilePts b2M c 1 (pair fun _ => w2Tile w2 0 1) ∗ wfree c (w2S 1) -∗ wp frame (wpE (defs₀ (F := F)) 𝒱₀ (c : Thread nD τ) none) Set.univ (k ⟨k0_pay25 v252 v288 (w1Tile w1 0 1) (w2Tile w2 0 1), k0_pay26 v302 v308 (w1Tile w1 0 1) (w2Tile w2 0 1)⟩) Q)
          -∗ wp frame (wpE (defs₀ (F := F)) 𝒱₀ (c : Thread nD τ) none) Set.univ (k0_part10 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 v252 v288 v302 v308 >>= k) Q) := by
  rw [k0_part10_eq_skeleton]; unfold k0_part10_skel
  iintro ⟨#HI, #HL, ⟨%W, HO⟩, Hfly2, H1, Hb11, Hb10, Hb20, Hf10, Hf20⟩ Hk
  sl_exec
  iapply (land2_step c 1 0 1 w2 4 (by decide) (dst := tile b2M 1) rfl) $$ [Hfly2 HO]
  · isplitl [Hfly2]; · iexact Hfly2
    isplitl [HO]; · iexact HO
    iexact HL
  iintro ⟨⟨%W, HO⟩, H2, Hb21, Hf21⟩
  (try sl_exec)
  iapply (copy1_step c 0 1 0 w1) $$ [H1 Hb10 Hf10]
  · isplitl [H1]; · iexact H1
    isplitl [Hb10]; · iexists _; iexact Hb10
    iexact Hf10
  iintro Hfly1
  (try sl_exec)
  iapply (copy2_step c 0 1 0 w2) $$ [H2 Hb20 Hf20]
  · isplitl [H2]; · iexact H2
    isplitl [Hb20]; · iexists _; iexact Hb20
    iexact Hf20
  iintro Hfly2
  (try sl_exec)
  sl_open_run
  rw [t1_read1, t2_read1]
  iapply Hk
  iframe
  iexists _; iexact HO

end Cert.KernelIdeal.Moe

end
-- ==== Proof.KernelIdeal.PartsB.lean ====
/- The body's parts 11 to 19. -/
module

public import proofs.«01_k».proof.Proof.KernelIdeal.Kits
public import Idealize.ShloMosaic.Lib.Tactic.Stretches

@[expose] public section

noncomputable section

namespace Cert.KernelIdeal.Moe

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ) {α : Type} (c : Dev nD)

/-- Part 11: the first results sent back, the device's own first stored. -/
theorem part11 (v2 v8 v9 : BitVec 32) (v117 v129 v342 v349) (hr : retOf m c 0 = k0_pay27 v349) (hm : mineOf m c 0 = k0_pay28 v342) {Q : α → sProp 𝕄} {k : _ → Prog (TpuEff nD τ sig (Elt F) Λ₀ .tc) α} :
    iprop(invs m K ∗ levAts L lv ∗ owing c 4 ∗ (∃ f, slabPts retM c 0 f) ∗ retKit c 0 ∗ (∃ f, slabPts mineM c 0 f))
      ⊢ iprop((owing c 3 ∗ cred (tallyAt (cellOn c (bsS 0)) () N) ∗ slabPts mineM c 0 (stack (mineOf m c)) -∗ wp frame (wpE (defs₀ (F := F)) 𝒱₀ (c : Thread nD τ) none) Set.univ (k ⟨k0_pay29 v117 v129, k0_pay30, k0_pay31⟩) Q)
          -∗ wp frame (wpE (defs₀ (F := F)) 𝒱₀ (c : Thread nD τ) none) Set.univ (k0_part11 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 c v2 v8 v9 v117 v129 v342 v349 >>= k) Q) := by
  rw [k0_part11_eq_skeleton]; unfold k0_part11_skel
  iintro ⟨#HI, #HL, ⟨%W, HO⟩, ⟨%fr0, Hr0⟩, Hkit, ⟨%fm0, Hm0⟩⟩ Hk
  sl_exec
  rw [← hr]
  ihave Hr0 : (slabPts retM c 0 (stack (retOf m c))) $$ [Hr0]
  · rw [← ret_stored c 0 (retOf m c) fr0]; iexact Hr0
  unfold retKit
  icases Hkit with ⟨Hd, Ht1, Hq1, Ht2, Hq2⟩
  iapply (ret_step m K c 0 ⟨k0_dev6 c, k0_dev6_lt c⟩ (dev6 c) (O₁ := debt c 4) (O := debt c 3) rfl) $$ [Hr0 HO Hd Ht1 Hq1 Ht2 Hq2]
  · isplitr; · iexact HI
    iframe
  iintro ⟨Hc0, HO⟩
  (try sl_exec)
  rw [← hm]
  ihave Hm0 : (slabPts mineM c 0 (stack (mineOf m c))) $$ [Hm0]
  · rw [← mine_stored c 0 (mineOf m c) fm0]; iexact Hm0
  iapply Hk
  iframe
  iexists _; iexact HO
/-- Part 12: expert 1's first halves landed, its second copied. -/
theorem part12 (w1 : Vec F S4x1024x2048 .f32)(w2 : Vec F S4x2048x1024 .f32) {Q : α → sProp 𝕄} {k : _ → Prog (TpuEff nD τ sig (Elt F) Λ₀ .tc) α} :
    iprop(invs m K ∗ levAts L lv ∗ owing c 3 ∗ fly1 c 0 1 0 w1 ∗ fly2 c 0 1 0 w2 ∗ tilePts b1M c 1 (pair fun _ => w1Tile w1 0 1) ∗ tilePts b2M c 1 (pair fun _ => w2Tile w2 0 1) ∗ wfree c (w1S 1) ∗ wfree c (w2S 1))
      ⊢ iprop((owing c 3 ∗ fly1 c 1 1 1 w1 ∗ fly2 c 1 1 1 w2 ∗ tilePts b1M c 0 (pair fun _ => w1Tile w1 1 0) ∗ tilePts b2M c 0 (pair fun _ => w2Tile w2 1 0) ∗ wfree c (w1S 0) ∗ wfree c (w2S 0) -∗ wp frame (wpE (defs₀ (F := F)) 𝒱₀ (c : Thread nD τ) none) Set.univ (k (k0_pay32 (w1Tile w1 1 0))) Q)
          -∗ wp frame (wpE (defs₀ (F := F)) 𝒱₀ (c : Thread nD τ) none) Set.univ (k0_part12 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12  >>= k) Q) := by
  rw [k0_part12_eq_skeleton]; unfold k0_part12_skel
  iintro ⟨#HI, #HL, ⟨%W, HO⟩, Hfly1, Hfly2, Hb11, Hb21, Hf11, Hf21⟩ Hk
  sl_exec
  iapply (land1_step c 0 1 0 w1 3 (by decide) (dst := tile b1M 0) rfl) $$ [Hfly1 HO]
  · isplitl [Hfly1]; · iexact Hfly1
    isplitl [HO]; · iexact HO
    iexact HL
  iintro ⟨⟨%W, HO⟩, H1, Hb10, Hf10⟩
  (try sl_exec)
  iapply (land2_step c 0 1 0 w2 3 (by decide) (dst := tile b2M 0) rfl) $$ [Hfly2 HO]
  · isplitl [Hfly2]; · iexact Hfly2
    isplitl [HO]; · iexact HO
    iexact HL
  iintro ⟨⟨%W, HO⟩, H2, Hb20, Hf20⟩
  (try sl_exec)
  iapply (copy1_step c 1 1 1 w1) $$ [H1 Hb11 Hf11]
  · isplitl [H1]; · iexact H1
    isplitl [Hb11]; · iexists _; iexact Hb11
    iexact Hf11
  iintro Hfly1
  (try sl_exec)
  iapply (copy2_step c 1 1 1 w2) $$ [H2 Hb21 Hf21]
  · isplitl [H2]; · iexact H2
    isplitl [Hb21]; · iexists _; iexact Hb21
    iexact Hf21
  iintro Hfly2
  (try sl_exec)
  sl_open_run
  rw [t1_read0]
  iapply Hk
  iframe
  iexists _; iexact HO
/-- Part 13: the peer's second slab received. -/
theorem part13 (v2 v8 v9 : BitVec 32) (v381 v382 v383 v409) (r : Fin 4 → Vec F S1x288x1024 .bf16) (hr : sentOf m (peer c) = r) (w2 : Vec F S4x2048x1024 .f32) {Q : α → sProp 𝕄} {k : _ → Prog (TpuEff nD τ sig (Elt F) Λ₀ .tc) α} :
    iprop(invs m K ∗ levAts L lv ∗ owing c 3 ∗ ticket c (frS 1) ∗ tilePts b2M c 0 (pair fun _ => w2Tile w2 1 0))
      ⊢ iprop((owing c 3 ∗ spent c (frS 1) ∗ slabPts recvM c 1 (stack r) ∗ tilePts b2M c 0 (pair fun _ => w2Tile w2 1 0) -∗ wp frame (wpE (defs₀ (F := F)) 𝒱₀ (c : Thread nD τ) none) Set.univ (k ⟨k0_pay34 v381 v383 v409 (w2Tile w2 1 0), k0_pay35 (r 1), k0_pay36 v382 v409 (w2Tile w2 1 0) (r 1)⟩) Q)
          -∗ wp frame (wpE (defs₀ (F := F)) 𝒱₀ (c : Thread nD τ) none) Set.univ (k0_part13 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 v2 v8 v9 v381 v382 v383 v409 >>= k) Q) := by
  rw [k0_part13_eq_skeleton]; unfold k0_part13_skel
  iintro ⟨#HI, #HL, ⟨%W, HO⟩, Htickfr1, Hb20⟩ Hk
  sl_exec
  subst hr
  iapply (wait_step m K c (frS 1) (talks_fr 1) (O := debt c 3) (by rw [lv_fr]; exact above_debt4 c 3 (by decide)) (dst := slab recvM 1) rfl) $$ [HO Htickfr1]
  · unfold ticket
    icases Htickfr1 with ⟨Hcr, Hat⟩
    isplitr; · iexact HI
    isplitl [Hcr]; · iexact Hcr
    isplitl [HO]; · iexact HO
    isplitr; · iexact HL
    iexact Hat
  rw [pay_fr]
  iintro ⟨⟨%W, HO⟩, Hspfr1, Hv1⟩
  (try sl_exec)
  sl_open_run
  rw [t2_read0, recv_read1]
  iapply Hk
  iframe
  iexists _; iexact HO
/-- Part 14: expert 1's second halves landed, expert 2's first copied. -/
theorem part14 (v381) (w1 : Vec F S4x1024x2048 .f32)(w2 : Vec F S4x2048x1024 .f32) {Q : α → sProp 𝕄} {k : _ → Prog (TpuEff nD τ sig (Elt F) Λ₀ .tc) α} :
    iprop(invs m K ∗ levAts L lv ∗ owing c 3 ∗ fly1 c 1 1 1 w1 ∗ fly2 c 1 1 1 w2 ∗ tilePts b1M c 0 (pair fun _ => w1Tile w1 1 0) ∗ tilePts b2M c 0 (pair fun _ => w2Tile w2 1 0) ∗ wfree c (w1S 0) ∗ wfree c (w2S 0))
      ⊢ iprop((owing c 3 ∗ fly1 c 0 2 0 w1 ∗ fly2 c 0 2 0 w2 ∗ tilePts b1M c 1 (pair fun _ => w1Tile w1 1 1) ∗ tilePts b2M c 1 (pair fun _ => w2Tile w2 1 1) ∗ wfree c (w1S 1) ∗ wfree c (w2S 1) -∗ wp frame (wpE (defs₀ (F := F)) 𝒱₀ (c : Thread nD τ) none) Set.univ (k ⟨k0_pay37 (w1Tile w1 1 1), k0_pay38 (w2Tile w2 1 1), k0_pay39 v381 (w1Tile w1 1 1), Scalar.ofBits .f32 0x00000000#32⟩) Q)
          -∗ wp frame (wpE (defs₀ (F := F)) 𝒱₀ (c : Thread nD τ) none) Set.univ (k0_part14 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 v381 >>= k) Q) := by
  rw [k0_part14_eq_skeleton]; unfold k0_part14_skel
  iintro ⟨#HI, #HL, ⟨%W, HO⟩, Hfly1, Hfly2, Hb10, Hb20, Hf10, Hf20⟩ Hk
  sl_exec
  iapply (land1_step c 1 1 1 w1 3 (by decide) (dst := tile b1M 1) rfl) $$ [Hfly1 HO]
  · isplitl [Hfly1]; · iexact Hfly1
    isplitl [HO]; · iexact HO
    iexact HL
  iintro ⟨⟨%W, HO⟩, H1, Hb11, Hf11⟩
  (try sl_exec)
  iapply (land2_step c 1 1 1 w2 3 (by decide) (dst := tile b2M 1) rfl) $$ [Hfly2 HO]
  · isplitl [Hfly2]; · iexact Hfly2
    isplitl [HO]; · iexact HO
    iexact HL
  iintro ⟨⟨%W, HO⟩, H2, Hb21, Hf21⟩
  (try sl_exec)
  iapply (copy1_step c 0 2 0 w1) $$ [H1 Hb10 Hf10]
  · isplitl [H1]; · iexact H1
    isplitl [Hb10]; · iexists _; iexact Hb10
    iexact Hf10
  iintro Hfly1
  (try sl_exec)
  iapply (copy2_step c 0 2 0 w2) $$ [H2 Hb20 Hf20]
  · isplitl [H2]; · iexact H2
    isplitl [Hb20]; · iexists _; iexact Hb20
    iexact Hf20
  iintro Hfly2
  (try sl_exec)
  sl_open_run
  rw [t1_read1, t2_read1]
  iapply Hk
  iframe
  iexists _; iexact HO
/-- Part 15: the second results sent back, the device's own second stored. -/
theorem part15 (v2 v8 v9 : BitVec 32) (v417 v431 v437 v463 v465 v466 z) (hr : retOf m c 1 = k0_pay40 v431 v437 v463 v465) (hm : mineOf m c 1 = k0_pay41 v417 v465 v466 z) {Q : α → sProp 𝕄} {k : _ → Prog (TpuEff nD τ sig (Elt F) Λ₀ .tc) α} :
    iprop(invs m K ∗ levAts L lv ∗ owing c 3 ∗ (∃ f, slabPts retM c 1 f) ∗ retKit c 1 ∗ (∃ f, slabPts mineM c 1 f))
      ⊢ iprop((owing c 2 ∗ cred (tallyAt (cellOn c (bsS 1)) () N) ∗ slabPts mineM c 1 (stack (mineOf m c)) -∗ wp frame (wpE (defs₀ (F := F)) 𝒱₀ (c : Thread nD τ) none) Set.univ (k ⟨iota .tc S288x2048 32 [0] iota_S288x2048_d0_w32, 576#32⟩) Q)
          -∗ wp frame (wpE (defs₀ (F := F)) 𝒱₀ (c : Thread nD τ) none) Set.univ (k0_part15 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 c v2 v8 v9 v417 v431 v437 v463 v465 v466 z >>= k) Q) := by
  rw [k0_part15_eq_skeleton]; unfold k0_part15_skel
  iintro ⟨#HI, #HL, ⟨%W, HO⟩, ⟨%fr1, Hr1⟩, Hkit, ⟨%fm1, Hm1⟩⟩ Hk
  sl_exec
  rw [← hr]
  ihave Hr1 : (slabPts retM c 1 (stack (retOf m c))) $$ [Hr1]
  · rw [← ret_stored c 1 (retOf m c) fr1]; iexact Hr1
  unfold retKit
  icases Hkit with ⟨Hd, Ht1, Hq1, Ht2, Hq2⟩
  iapply (ret_step m K c 1 ⟨k0_dev7 c, k0_dev7_lt c⟩ (dev7 c) (O₁ := debt c 3) (O := debt c 2) rfl) $$ [Hr1 HO Hd Ht1 Hq1 Ht2 Hq2]
  · isplitr; · iexact HI
    iframe
  iintro ⟨Hc1, HO⟩
  (try sl_exec)
  rw [← hm]
  ihave Hm1 : (slabPts mineM c 1 (stack (mineOf m c))) $$ [Hm1]
  · rw [← mine_stored c 1 (mineOf m c) fm1]; iexact Hm1
  sl_open_run
  iapply Hk
  iframe
  iexists _; iexact HO
/-- Part 16: expert 2's first halves landed, its first weight's second half copied. -/
theorem part16 (v117 v129 v500 n) (w1 : Vec F S4x1024x2048 .f32)(w2 : Vec F S4x2048x1024 .f32) {Q : α → sProp 𝕄} {k : _ → Prog (TpuEff nD τ sig (Elt F) Λ₀ .tc) α} :
    iprop(invs m K ∗ levAts L lv ∗ owing c 2 ∗ fly1 c 0 2 0 w1 ∗ fly2 c 0 2 0 w2 ∗ tilePts b1M c 1 (pair fun _ => w1Tile w1 1 1) ∗ wfree c (w1S 1))
      ⊢ iprop((owing c 2 ∗ fly1 c 1 2 1 w1 ∗ held w2M c w2 ∗ tilePts b1M c 0 (pair fun _ => w1Tile w1 2 0) ∗ tilePts b2M c 0 (pair fun _ => w2Tile w2 2 0) ∗ wfree c (w1S 0) ∗ wfree c (w2S 0) -∗ wp frame (wpE (defs₀ (F := F)) 𝒱₀ (c : Thread nD τ) none) Set.univ (k ⟨k0_pay42 v117 v129 v500 n, k0_pay43, k0_pay44⟩) Q)
          -∗ wp frame (wpE (defs₀ (F := F)) 𝒱₀ (c : Thread nD τ) none) Set.univ (k0_part16 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 v117 v129 v500 n >>= k) Q) := by
  rw [k0_part16_eq_skeleton]; unfold k0_part16_skel
  iintro ⟨#HI, #HL, ⟨%W, HO⟩, Hfly1, Hfly2, Hb11, Hf11⟩ Hk
  sl_exec
  iapply (land1_step c 0 2 0 w1 2 (by decide) (dst := tile b1M 0) rfl) $$ [Hfly1 HO]
  · isplitl [Hfly1]; · iexact Hfly1
    isplitl [HO]; · iexact HO
    iexact HL
  iintro ⟨⟨%W, HO⟩, H1, Hb10, Hf10⟩
  (try sl_exec)
  iapply (land2_step c 0 2 0 w2 2 (by decide) (dst := tile b2M 0) rfl) $$ [Hfly2 HO]
  · isplitl [Hfly2]; · iexact Hfly2
    isplitl [HO]; · iexact HO
    iexact HL
  iintro ⟨⟨%W, HO⟩, H2, Hb20, Hf20⟩
  (try sl_exec)
  iapply (copy1_step c 1 2 1 w1) $$ [H1 Hb11 Hf11]
  · isplitl [H1]; · iexact H1
    isplitl [Hb11]; · iexists _; iexact Hb11
    iexact Hf11
  iintro Hfly1
  (try sl_exec)
  iapply Hk
  iframe
  iexists _; iexact HO
/-- Part 17: expert 2's first halves used, the peer's third slab received. -/
theorem part17 (v2 v8 v9 : BitVec 32) (v510 v512) (r : Fin 4 → Vec F S1x288x1024 .bf16) (hr : sentOf m (peer c) = r) (w1 : Vec F S4x1024x2048 .f32)(w2 : Vec F S4x2048x1024 .f32) {Q : α → sProp 𝕄} {k : _ → Prog (TpuEff nD τ sig (Elt F) Λ₀ .tc) α} :
    iprop(invs m K ∗ levAts L lv ∗ owing c 2 ∗ held w2M c w2 ∗ tilePts b2M c 1 (pair fun _ => w2Tile w2 1 1) ∗ wfree c (w2S 1) ∗ tilePts b1M c 0 (pair fun _ => w1Tile w1 2 0) ∗ tilePts b2M c 0 (pair fun _ => w2Tile w2 2 0) ∗ ticket c (frS 2))
      ⊢ iprop((owing c 2 ∗ fly2 c 1 2 1 w2 ∗ spent c (frS 2) ∗ slabPts recvM c 2 (stack r) ∗ tilePts b1M c 0 (pair fun _ => w1Tile w1 2 0) ∗ tilePts b2M c 0 (pair fun _ => w2Tile w2 2 0) -∗ wp frame (wpE (defs₀ (F := F)) 𝒱₀ (c : Thread nD τ) none) Set.univ (k ⟨k0_pay45 (w1Tile w1 2 0), k0_pay46 (w2Tile w2 2 0), k0_pay47 v510 v512 (w1Tile w1 2 0) (w2Tile w2 2 0), k0_pay48 (r 2)⟩) Q)
          -∗ wp frame (wpE (defs₀ (F := F)) 𝒱₀ (c : Thread nD τ) none) Set.univ (k0_part17 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 v2 v8 v9 v510 v512 >>= k) Q) := by
  rw [k0_part17_eq_skeleton]; unfold k0_part17_skel
  iintro ⟨#HI, #HL, ⟨%W, HO⟩, H2, Hb21, Hf21, Hb10, Hb20, Htickfr2⟩ Hk
  sl_exec
  subst hr
  iapply (copy2_step c 1 2 1 w2) $$ [H2 Hb21 Hf21]
  · isplitl [H2]; · iexact H2
    isplitl [Hb21]; · iexists _; iexact Hb21
    iexact Hf21
  iintro Hfly2
  (try sl_exec)
  iapply (wait_step m K c (frS 2) (talks_fr 2) (O := debt c 2) (by rw [lv_fr]; exact above_debt4 c 2 (by decide)) (dst := slab recvM 2) rfl) $$ [HO Htickfr2]
  · unfold ticket
    icases Htickfr2 with ⟨Hcr, Hat⟩
    isplitr; · iexact HI
    isplitl [Hcr]; · iexact Hcr
    isplitl [HO]; · iexact HO
    isplitr; · iexact HL
    iexact Hat
  rw [pay_fr]
  iintro ⟨⟨%W, HO⟩, Hspfr2, Hv2⟩
  (try sl_exec)
  sl_open_run
  rw [t1_read0, t2_read0, recv_read2]
  iapply Hk
  iframe
  iexists _; iexact HO
/-- Part 18: expert 2's second halves landed, expert 3's first weight copied. -/
theorem part18 (v511 v538 v540 v560) (w1 : Vec F S4x1024x2048 .f32)(w2 : Vec F S4x2048x1024 .f32) {Q : α → sProp 𝕄} {k : _ → Prog (TpuEff nD τ sig (Elt F) Λ₀ .tc) α} :
    iprop(invs m K ∗ levAts L lv ∗ owing c 2 ∗ fly1 c 1 2 1 w1 ∗ fly2 c 1 2 1 w2 ∗ tilePts b1M c 0 (pair fun _ => w1Tile w1 2 0) ∗ wfree c (w1S 0))
      ⊢ iprop((owing c 2 ∗ fly1 c 0 3 0 w1 ∗ held w2M c w2 ∗ tilePts b1M c 1 (pair fun _ => w1Tile w1 2 1) ∗ tilePts b2M c 1 (pair fun _ => w2Tile w2 2 1) ∗ wfree c (w1S 1) ∗ wfree c (w2S 1) -∗ wp frame (wpE (defs₀ (F := F)) 𝒱₀ (c : Thread nD τ) none) Set.univ (k (k0_pay49 v511 v538 v540 v560)) Q)
          -∗ wp frame (wpE (defs₀ (F := F)) 𝒱₀ (c : Thread nD τ) none) Set.univ (k0_part18 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 v511 v538 v540 v560 >>= k) Q) := by
  rw [k0_part18_eq_skeleton]; unfold k0_part18_skel
  iintro ⟨#HI, #HL, ⟨%W, HO⟩, Hfly1, Hfly2, Hb10, Hf10⟩ Hk
  sl_exec
  iapply (land1_step c 1 2 1 w1 2 (by decide) (dst := tile b1M 1) rfl) $$ [Hfly1 HO]
  · isplitl [Hfly1]; · iexact Hfly1
    isplitl [HO]; · iexact HO
    iexact HL
  iintro ⟨⟨%W, HO⟩, H1, Hb11, Hf11⟩
  (try sl_exec)
  iapply (land2_step c 1 2 1 w2 2 (by decide) (dst := tile b2M 1) rfl) $$ [Hfly2 HO]
  · isplitl [Hfly2]; · iexact Hfly2
    isplitl [HO]; · iexact HO
    iexact HL
  iintro ⟨⟨%W, HO⟩, H2, Hb21, Hf21⟩
  (try sl_exec)
  iapply (copy1_step c 0 3 0 w1) $$ [H1 Hb10 Hf10]
  · isplitl [H1]; · iexact H1
    isplitl [Hb10]; · iexists _; iexact Hb10
    iexact Hf10
  iintro Hfly1
  (try sl_exec)
  iapply Hk
  iframe
  iexists _; iexact HO
/-- Part 19: expert 2's second halves used, the third results stored. -/
theorem part19 (v2 v8 v9 : BitVec 32) (v510 v546 v560 v566) (w1 : Vec F S4x1024x2048 .f32)(w2 : Vec F S4x2048x1024 .f32) (hr : retOf m c 2 = k0_pay53 v560 v566 (w1Tile w1 2 1) (w2Tile w2 2 1)) {Q : α → sProp 𝕄} {k : _ → Prog (TpuEff nD τ sig (Elt F) Λ₀ .tc) α} :
    iprop(invs m K ∗ levAts L lv ∗ held w2M c w2 ∗ tilePts b2M c 0 (pair fun _ => w2Tile w2 2 0) ∗ wfree c (w2S 0) ∗ tilePts b1M c 1 (pair fun _ => w1Tile w1 2 1) ∗ tilePts b2M c 1 (pair fun _ => w2Tile w2 2 1) ∗ (∃ f, slabPts retM c 2 f))
      ⊢ iprop((fly2 c 0 3 0 w2 ∗ tilePts b1M c 1 (pair fun _ => w1Tile w1 2 1) ∗ tilePts b2M c 1 (pair fun _ => w2Tile w2 2 1) ∗ slabPts retM c 2 (stack (retOf m c)) -∗ wp frame (wpE (defs₀ (F := F)) 𝒱₀ (c : Thread nD τ) none) Set.univ (k (k0_pay52 v510 v546 (w1Tile w1 2 1) (w2Tile w2 2 1))) Q)
          -∗ wp frame (wpE (defs₀ (F := F)) 𝒱₀ (c : Thread nD τ) none) Set.univ (k0_part19 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 v2 v8 v9 v510 v546 v560 v566 >>= k) Q) := by
  rw [k0_part19_eq_skeleton]; unfold k0_part19_skel
  iintro ⟨#HI, #HL, H2, Hb20, Hf20, Hb11, Hb21, ⟨%fr2, Hr2⟩⟩ Hk
  sl_exec
  iapply (copy2_step c 0 3 0 w2) $$ [H2 Hb20 Hf20]
  · isplitl [H2]; · iexact H2
    isplitl [Hb20]; · iexists _; iexact Hb20
    iexact Hf20
  iintro Hfly2
  (try sl_exec)
  sl_open_run
  rw [t1_read1, t2_read1]
  rw [← hr]
  ihave Hr2 : (slabPts retM c 2 (stack (retOf m c))) $$ [Hr2]
  · rw [← ret_stored c 2 (retOf m c) fr2]; iexact Hr2
  iapply Hk
  iframe

end Cert.KernelIdeal.Moe

end
-- ==== Proof.KernelIdeal.PartsC.lean ====
/- The body's parts 20 to 29. -/
module

public import proofs.«01_k».proof.Proof.KernelIdeal.Kits
public import Idealize.ShloMosaic.Lib.Tactic.Stretches

@[expose] public section

noncomputable section

namespace Cert.KernelIdeal.Moe

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ) {α : Type} (c : Dev nD)

/-- Part 20: the third results sent back, the device's own third stored. -/
theorem part20 (v117 v129 v600) (hm : mineOf m c 2 = k0_pay54 v600) (w1 : Vec F S4x1024x2048 .f32) {Q : α → sProp 𝕄} {k : _ → Prog (TpuEff nD τ sig (Elt F) Λ₀ .tc) α} :
    iprop(invs m K ∗ levAts L lv ∗ owing c 2 ∗ slabPts retM c 2 (stack (retOf m c)) ∗ retKit c 2 ∗ (∃ f, slabPts mineM c 2 f) ∗ fly1 c 0 3 0 w1)
      ⊢ iprop((owing c 1 ∗ cred (tallyAt (cellOn c (bsS 2)) () N) ∗ slabPts mineM c 2 (stack (mineOf m c)) ∗ held w1M c w1 ∗ tilePts b1M c 0 (pair fun _ => w1Tile w1 3 0) ∗ wfree c (w1S 0) -∗ wp frame (wpE (defs₀ (F := F)) 𝒱₀ (c : Thread nD τ) none) Set.univ (k ⟨k0_pay55 v117 v129, k0_pay56, k0_pay57⟩) Q)
          -∗ wp frame (wpE (defs₀ (F := F)) 𝒱₀ (c : Thread nD τ) none) Set.univ (k0_part20 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 c v117 v129 v600 >>= k) Q) := by
  rw [k0_part20_eq_skeleton]; unfold k0_part20_skel
  iintro ⟨#HI, #HL, ⟨%W, HO⟩, Hr2, Hkit, ⟨%fm2, Hm2⟩, Hfly1⟩ Hk
  sl_exec
  unfold retKit
  icases Hkit with ⟨Hd, Ht1, Hq1, Ht2, Hq2⟩
  iapply (ret_step m K c 2 ⟨k0_dev8 c, k0_dev8_lt c⟩ (dev8 c) (O₁ := debt c 2) (O := debt c 1) rfl) $$ [Hr2 HO Hd Ht1 Hq1 Ht2 Hq2]
  · isplitr; · iexact HI
    iframe
  iintro ⟨Hc2, HO⟩
  (try sl_exec)
  rw [← hm]
  ihave Hm2 : (slabPts mineM c 2 (stack (mineOf m c))) $$ [Hm2]
  · rw [← mine_stored c 2 (mineOf m c) fm2]; iexact Hm2
  iapply (land1_step c 0 3 0 w1 1 (by decide) (dst := tile b1M 0) rfl) $$ [Hfly1 HO]
  · isplitl [Hfly1]; · iexact Hfly1
    isplitl [HO]; · iexact HO
    iexact HL
  iintro ⟨⟨%W, HO⟩, H1, Hb10, Hf10⟩
  (try sl_exec)
  iapply Hk
  iframe
  iexists _; iexact HO
/-- Part 21: expert 3's first halves used, its second copied. -/
theorem part21 (v2 v9 : BitVec 32) (v639 v641) (w1 : Vec F S4x1024x2048 .f32)(w2 : Vec F S4x2048x1024 .f32) {Q : α → sProp 𝕄} {k : _ → Prog (TpuEff nD τ sig (Elt F) Λ₀ .tc) α} :
    iprop(invs m K ∗ levAts L lv ∗ owing c 1 ∗ fly2 c 0 3 0 w2 ∗ held w1M c w1 ∗ tilePts b1M c 0 (pair fun _ => w1Tile w1 3 0) ∗ tilePts b1M c 1 (pair fun _ => w1Tile w1 2 1) ∗ tilePts b2M c 1 (pair fun _ => w2Tile w2 2 1) ∗ wfree c (w1S 1) ∗ wfree c (w2S 1))
      ⊢ iprop((owing c 1 ∗ fly1 c 1 3 1 w1 ∗ fly2 c 1 3 1 w2 ∗ tilePts b1M c 0 (pair fun _ => w1Tile w1 3 0) ∗ tilePts b2M c 0 (pair fun _ => w2Tile w2 3 0) ∗ wfree c (w2S 0) -∗ wp frame (wpE (defs₀ (F := F)) 𝒱₀ (c : Thread nD τ) none) Set.univ (k ⟨k0_pay58 (w1Tile w1 3 0), k0_pay59 (w2Tile w2 3 0), k0_pay60 v639 v641 (w1Tile w1 3 0) (w2Tile w2 3 0), Scalar.addi (Scalar.addi 0#32 (Scalar.muli v2 4#32)) (Scalar.muli v9 2#32), 1#32⟩) Q)
          -∗ wp frame (wpE (defs₀ (F := F)) 𝒱₀ (c : Thread nD τ) none) Set.univ (k0_part21 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 v2 v9 v639 v641 >>= k) Q) := by
  rw [k0_part21_eq_skeleton]; unfold k0_part21_skel
  iintro ⟨#HI, #HL, ⟨%W, HO⟩, Hfly2, H1, Hb10, Hb11, Hb21, Hf11, Hf21⟩ Hk
  sl_exec
  iapply (land2_step c 0 3 0 w2 1 (by decide) (dst := tile b2M 0) rfl) $$ [Hfly2 HO]
  · isplitl [Hfly2]; · iexact Hfly2
    isplitl [HO]; · iexact HO
    iexact HL
  iintro ⟨⟨%W, HO⟩, H2, Hb20, Hf20⟩
  (try sl_exec)
  iapply (copy1_step c 1 3 1 w1) $$ [H1 Hb11 Hf11]
  · isplitl [H1]; · iexact H1
    isplitl [Hb11]; · iexists _; iexact Hb11
    iexact Hf11
  iintro Hfly1
  (try sl_exec)
  iapply (copy2_step c 1 3 1 w2) $$ [H2 Hb21 Hf21]
  · isplitl [H2]; · iexact H2
    isplitl [Hb21]; · iexists _; iexact Hb21
    iexact Hf21
  iintro Hfly2
  (try sl_exec)
  sl_open_run
  rw [t1_read0, t2_read0]
  iapply Hk
  iframe
  iexists _; iexact HO
/-- Part 22: the peer's fourth slab received, expert 3's second halves landed. -/
theorem part22 (v8 : BitVec 32) (v640 v667 v669 v679 n) (r : Fin 4 → Vec F S1x288x1024 .bf16) (hr : sentOf m (peer c) = r) (w1 : Vec F S4x1024x2048 .f32)(w2 : Vec F S4x2048x1024 .f32) {Q : α → sProp 𝕄} {k : _ → Prog (TpuEff nD τ sig (Elt F) Λ₀ .tc) α} :
    iprop(invs m K ∗ levAts L lv ∗ owing c 1 ∗ ticket c (frS 3) ∗ fly1 c 1 3 1 w1 ∗ fly2 c 1 3 1 w2)
      ⊢ iprop((owing c 1 ∗ spent c (frS 3) ∗ slabPts recvM c 3 (stack r) ∗ held w1M c w1 ∗ held w2M c w2 ∗ tilePts b1M c 1 (pair fun _ => w1Tile w1 3 1) ∗ tilePts b2M c 1 (pair fun _ => w2Tile w2 3 1) ∗ wfree c (w1S 1) ∗ wfree c (w2S 1) -∗ wp frame (wpE (defs₀ (F := F)) 𝒱₀ (c : Thread nD τ) none) Set.univ (k ⟨k0_pay61 (r 3), k0_pay62 v640 v667 v669 (r 3), k0_pay63 (w1Tile w1 3 1)⟩) Q)
          -∗ wp frame (wpE (defs₀ (F := F)) 𝒱₀ (c : Thread nD τ) none) Set.univ (k0_part22 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 v8 v640 v667 v669 v679 n >>= k) Q) := by
  rw [k0_part22_eq_skeleton]; unfold k0_part22_skel
  iintro ⟨#HI, #HL, ⟨%W, HO⟩, Htickfr3, Hfly1, Hfly2⟩ Hk
  sl_exec
  subst hr
  iapply (wait_step m K c (frS 3) (talks_fr 3) (O := debt c 1) (by rw [lv_fr]; exact above_debt4 c 1 (by decide)) (dst := slab recvM 3) rfl) $$ [HO Htickfr3]
  · unfold ticket
    icases Htickfr3 with ⟨Hcr, Hat⟩
    isplitr; · iexact HI
    isplitl [Hcr]; · iexact Hcr
    isplitl [HO]; · iexact HO
    isplitr; · iexact HL
    iexact Hat
  rw [pay_fr]
  iintro ⟨⟨%W, HO⟩, Hspfr3, Hv3⟩
  (try sl_exec)
  iapply (land1_step c 1 3 1 w1 1 (by decide) (dst := tile b1M 1) rfl) $$ [Hfly1 HO]
  · isplitl [Hfly1]; · iexact Hfly1
    isplitl [HO]; · iexact HO
    iexact HL
  iintro ⟨⟨%W, HO⟩, H1, Hb11, Hf11⟩
  (try sl_exec)
  iapply (land2_step c 1 3 1 w2 1 (by decide) (dst := tile b2M 1) rfl) $$ [Hfly2 HO]
  · isplitl [Hfly2]; · iexact Hfly2
    isplitl [HO]; · iexact HO
    iexact HL
  iintro ⟨⟨%W, HO⟩, H2, Hb21, Hf21⟩
  (try sl_exec)
  sl_open_run
  rw [recv_read3, t1_read1]
  iapply Hk
  iframe
  iexists _; iexact HO
/-- Part 23: the fourth results sent back. -/
theorem part23 (v2 v8 v9 : BitVec 32) (v639 v675 v689 v695 v709) (w2 : Vec F S4x2048x1024 .f32) (hr : retOf m c 3 = k0_pay65 v689 v695 v709 (w2Tile w2 3 1)) {Q : α → sProp 𝕄} {k : _ → Prog (TpuEff nD τ sig (Elt F) Λ₀ .tc) α} :
    iprop(invs m K ∗ levAts L lv ∗ owing c 1 ∗ tilePts b2M c 1 (pair fun _ => w2Tile w2 3 1) ∗ (∃ f, slabPts retM c 3 f) ∗ retKit c 3)
      ⊢ iprop((owing c 0 ∗ cred (tallyAt (cellOn c (bsS 3)) () N) ∗ tilePts b2M c 1 (pair fun _ => w2Tile w2 3 1) -∗ wp frame (wpE (defs₀ (F := F)) 𝒱₀ (c : Thread nD τ) none) Set.univ (k (k0_pay66 v639 v675 v709 (w2Tile w2 3 1))) Q)
          -∗ wp frame (wpE (defs₀ (F := F)) 𝒱₀ (c : Thread nD τ) none) Set.univ (k0_part23 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 c v2 v8 v9 v639 v675 v689 v695 v709 >>= k) Q) := by
  rw [k0_part23_eq_skeleton]; unfold k0_part23_skel
  iintro ⟨#HI, #HL, ⟨%W, HO⟩, Hb21, ⟨%fr3, Hr3⟩, Hkit⟩ Hk
  sl_exec
  sl_open_run
  rw [t2_read1]
  rw [← hr]
  ihave Hr3 : (slabPts retM c 3 (stack (retOf m c))) $$ [Hr3]
  · rw [← ret_stored c 3 (retOf m c) fr3]; iexact Hr3
  unfold retKit
  icases Hkit with ⟨Hd, Ht1, Hq1, Ht2, Hq2⟩
  iapply (ret_step m K c 3 ⟨k0_dev9 c, k0_dev9_lt c⟩ (dev9 c) (O₁ := debt c 1) (O := debt c 0) rfl) $$ [Hr3 HO Hd Ht1 Hq1 Ht2 Hq2]
  · isplitr; · iexact HI
    iframe
  iintro ⟨Hc3, HO⟩
  (try sl_exec)
  iapply Hk
  iframe
  iexists _; iexact HO
/-- Part 24: the device's own results, and what they put in the output. -/
theorem part24 (v117 v742) (hm : mineOf m c 3 = k0_pay67 v742) (p : Fin 4 → Vec F S512x1024 .f32) (h0 : p 0 = k0_pay69 v117 (stack (mineOf m c))) (h1 : p 1 = k0_pay70 v117 (stack (mineOf m c))) (h2 : p 2 = k0_pay71 v117 (stack (mineOf m c))) {Q : α → sProp 𝕄} {k : _ → Prog (TpuEff nD τ sig (Elt F) Λ₀ .tc) α} :
    iprop(invs m K ∗ levAts L lv ∗ slabPts mineM c 0 (stack (mineOf m c)) ∗ slabPts mineM c 1 (stack (mineOf m c)) ∗ slabPts mineM c 2 (stack (mineOf m c)) ∗ (∃ f, slabPts mineM c 3 f) ∗ (∃ f, bandPts c 0 f) ∗ (∃ f, bandPts c 1 f) ∗ (∃ f, bandPts c 2 f))
      ⊢ iprop((held mineM c (stack (mineOf m c)) ∗ bandPts c 0 (outC p) ∗ bandPts c 1 (outC p) ∗ bandPts c 2 (outC p) -∗ wp frame (wpE (defs₀ (F := F)) 𝒱₀ (c : Thread nD τ) none) Set.univ (k ⟨iota .tc S512x1152 32 [1] iota_S512x1152_d1_w32, k0_pay72 v117 (stack (mineOf m c))⟩) Q)
          -∗ wp frame (wpE (defs₀ (F := F)) 𝒱₀ (c : Thread nD τ) none) Set.univ (k0_part24 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 v117 v742 >>= k) Q) := by
  rw [k0_part24_eq_skeleton]; unfold k0_part24_skel
  iintro ⟨#HI, #HL, Hm0, Hm1, Hm2, ⟨%fm3, Hm3⟩, ⟨%fo0, Ho0⟩, ⟨%fo1, Ho1⟩, ⟨%fo2, Ho2⟩⟩ Hk
  sl_exec
  rw [← hm]
  ihave Hm3 : (slabPts mineM c 3 (stack (mineOf m c))) $$ [Hm3]
  · rw [← mine_stored c 3 (mineOf m c) fm3]; iexact Hm3
  ihave Hm : (held mineM c (stack (mineOf m c))) $$ [Hm0 Hm1 Hm2 Hm3]
  · unfold held; rw [slabs_split mineM (View.set_whole _) c (stack (mineOf m c))]; iframe
  sl_exec
  sl_open_run
  rw [mine_read]
  rw [← h0]
  ihave Ho0 : (bandPts c 0 (outC p)) $$ [Ho0]
  · rw [← band_stored c 0 p fo0]; iexact Ho0
  rw [← h1]
  ihave Ho1 : (bandPts c 1 (outC p)) $$ [Ho1]
  · rw [← band_stored c 1 p fo1]; iexact Ho1
  rw [← h2]
  ihave Ho2 : (bandPts c 2 (outC p)) $$ [Ho2]
  · rw [← band_stored c 2 p fo2]; iexact Ho2
  iapply Hk
  iframe
/-- Part 25: the fourth band, and the first two returned slabs. -/
theorem part25 (v2 v8 v9 : BitVec 32) (v783) (p : Fin 4 → Vec F S512x1024 .f32) (h3 : p 3 = v783) {Q : α → sProp 𝕄} {k : _ → Prog (TpuEff nD τ sig (Elt F) Λ₀ .tc) α} :
    iprop(invs m K ∗ levAts L lv ∗ (∃ f, bandPts c 3 f) ∗ owing c 0 ∗ ticket c (brS 0) ∗ ticket c (brS 1))
      ⊢ iprop((owing c 0 ∗ bandPts c 3 (outC p) ∗ spent c (brS 0) ∗ spent c (brS 1) ∗ slabPts backM c 0 (stack (retOf m (peer c))) ∗ slabPts backM c 1 (stack (retOf m (peer c))) -∗ wp frame (wpE (defs₀ (F := F)) 𝒱₀ (c : Thread nD τ) none) Set.univ (k (Scalar.muli v2 4#32)) Q)
          -∗ wp frame (wpE (defs₀ (F := F)) 𝒱₀ (c : Thread nD τ) none) Set.univ (k0_part25 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 v2 v8 v9 v783 >>= k) Q) := by
  rw [k0_part25_eq_skeleton]; unfold k0_part25_skel
  iintro ⟨#HI, #HL, ⟨%fo3, Ho3⟩, ⟨%W, HO⟩, Htickbr0, Htickbr1⟩ Hk
  sl_exec
  rw [← h3]
  ihave Ho3 : (bandPts c 3 (outC p)) $$ [Ho3]
  · rw [← band_stored c 3 p fo3]; iexact Ho3
  iapply (wait_step m K c (brS 0) (talks_br 0) (O := debt c 0) (above_zero _) (dst := slab backM 0) rfl) $$ [HO Htickbr0]
  · unfold ticket
    icases Htickbr0 with ⟨Hcr, Hat⟩
    isplitr; · iexact HI
    isplitl [Hcr]; · iexact Hcr
    isplitl [HO]; · iexact HO
    isplitr; · iexact HL
    iexact Hat
  rw [pay_br]
  iintro ⟨⟨%W, HO⟩, Hspbr0, Hv0⟩
  (try sl_exec)
  iapply (wait_step m K c (brS 1) (talks_br 1) (O := debt c 0) (above_zero _) (dst := slab backM 1) rfl) $$ [HO Htickbr1]
  · unfold ticket
    icases Htickbr1 with ⟨Hcr, Hat⟩
    isplitr; · iexact HI
    isplitl [Hcr]; · iexact Hcr
    isplitl [HO]; · iexact HO
    isplitr; · iexact HL
    iexact Hat
  rw [pay_br]
  iintro ⟨⟨%W, HO⟩, Hspbr1, Hv1⟩
  (try sl_exec)
  sl_open_run
  iapply Hk
  iframe
  iexists _; iexact HO
/-- Part 26: the last two returned slabs. -/
theorem part26 (v2 v8 v9 : BitVec 32) (v126 v748 v809) (p : Fin 4 → Vec F S512x1024 .f32)  {Q : α → sProp 𝕄} {k : _ → Prog (TpuEff nD τ sig (Elt F) Λ₀ .tc) α} :
    iprop(invs m K ∗ levAts L lv ∗ slabPts backM c 0 (stack (retOf m (peer c))) ∗ slabPts backM c 1 (stack (retOf m (peer c))) ∗ owing c 0 ∗ ticket c (brS 2) ∗ ticket c (brS 3) ∗ bandPts c 0 (outC p))
      ⊢ iprop((owing c 0 ∗ bandPts c 0 (outC p) ∗ spent c (brS 2) ∗ spent c (brS 3) ∗ held backM c (stack (retOf m (peer c))) -∗ wp frame (wpE (defs₀ (F := F)) 𝒱₀ (c : Thread nD τ) none) Set.univ (k ⟨k0_pay73 (stack (retOf m (peer c))), k0_pay74 v126 v748, k0_pay75 (p 0)⟩) Q)
          -∗ wp frame (wpE (defs₀ (F := F)) 𝒱₀ (c : Thread nD τ) none) Set.univ (k0_part26 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 v2 v8 v9 v126 v748 v809 >>= k) Q) := by
  rw [k0_part26_eq_skeleton]; unfold k0_part26_skel
  iintro ⟨#HI, #HL, Hv0, Hv1, ⟨%W, HO⟩, Htickbr2, Htickbr3, Ho0⟩ Hk
  sl_exec
  iapply (wait_step m K c (brS 2) (talks_br 2) (O := debt c 0) (above_zero _) (dst := slab backM 2) rfl) $$ [HO Htickbr2]
  · unfold ticket
    icases Htickbr2 with ⟨Hcr, Hat⟩
    isplitr; · iexact HI
    isplitl [Hcr]; · iexact Hcr
    isplitl [HO]; · iexact HO
    isplitr; · iexact HL
    iexact Hat
  rw [pay_br]
  iintro ⟨⟨%W, HO⟩, Hspbr2, Hv2⟩
  (try sl_exec)
  iapply (wait_step m K c (brS 3) (talks_br 3) (O := debt c 0) (above_zero _) (dst := slab backM 3) rfl) $$ [HO Htickbr3]
  · unfold ticket
    icases Htickbr3 with ⟨Hcr, Hat⟩
    isplitr; · iexact HI
    isplitl [Hcr]; · iexact Hcr
    isplitl [HO]; · iexact HO
    isplitr; · iexact HL
    iexact Hat
  rw [pay_br]
  iintro ⟨⟨%W, HO⟩, Hspbr3, Hv3⟩
  (try sl_exec)
  ihave Hv : (held backM c (stack (retOf m (peer c)))) $$ [Hv0 Hv1 Hv2 Hv3]
  · unfold held; rw [slabs_split backM (View.set_whole _) c (stack (retOf m (peer c)))]; iframe
  sl_exec
  sl_open_run
  rw [back_read, out_read0]
  iapply Hk
  iframe
  iexists _; iexact HO
/-- Part 27: the peer's results added, band by band. -/
theorem part27 (v126 v748 v834 v841 v843) (p q : Fin 4 → Vec F S512x1024 .f32) (h0 : q 0 = k0_pay76 v834 v841 v843) (h1 : q 1 = k0_pay77 v126 v748 v834 (p 1)) (h2 : q 2 = k0_pay78 v126 v748 v834 (p 2)) {Q : α → sProp 𝕄} {k : _ → Prog (TpuEff nD τ sig (Elt F) Λ₀ .tc) α} :
    iprop(invs m K ∗ levAts L lv ∗ bandPts c 0 (outC p) ∗ bandPts c 1 (outC p) ∗ bandPts c 2 (outC p) ∗ bandPts c 3 (outC p))
      ⊢ iprop((bandPts c 0 (outC q) ∗ bandPts c 1 (outC q) ∗ bandPts c 2 (outC q) ∗ bandPts c 3 (outC p) -∗ wp frame (wpE (defs₀ (F := F)) 𝒱₀ (c : Thread nD τ) none) Set.univ (k (k0_pay79 v126 v748 v834 (p 3))) Q)
          -∗ wp frame (wpE (defs₀ (F := F)) 𝒱₀ (c : Thread nD τ) none) Set.univ (k0_part27 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 v126 v748 v834 v841 v843 >>= k) Q) := by
  rw [k0_part27_eq_skeleton]; unfold k0_part27_skel
  iintro ⟨#HI, #HL, Ho0, Ho1, Ho2, Ho3⟩ Hk
  sl_exec
  sl_open_run
  rw [out_read1, out_read2, out_read3]
  rw [← h0]
  ihave Ho0 : (bandPts c 0 (outC q)) $$ [Ho0]
  · rw [← band_stored c 0 q (outC p)]; iexact Ho0
  rw [← h1]
  ihave Ho1 : (bandPts c 1 (outC q)) $$ [Ho1]
  · rw [← band_stored c 1 q (outC p)]; iexact Ho1
  rw [← h2]
  ihave Ho2 : (bandPts c 2 (outC q)) $$ [Ho2]
  · rw [← band_stored c 2 q (outC p)]; iexact Ho2
  iapply Hk
  iframe
/-- Part 28: the fourth band, and the first of the sends' own waits. -/
theorem part28 (v881) (p q : Fin 4 → Vec F S512x1024 .f32) (h3 : q 3 = v881) {Q : α → sProp 𝕄} {k : _ → Prog (TpuEff nD τ sig (Elt F) Λ₀ .tc) α} :
    iprop(invs m K ∗ levAts L lv ∗ bandPts c 3 (outC p) ∗ owing c 0 ∗ ticket c (fsS 0) ∗ ticket c (bsS 0) ∗ ticket c (fsS 1))
      ⊢ iprop((owing c 0 ∗ bandPts c 3 (outC q) ∗ spent c (fsS 0) ∗ spent c (bsS 0) ∗ spent c (fsS 1) ∗ slabPts sentM c 0 (stack (sentOf m c)) ∗ slabPts retM c 0 (stack (retOf m c)) ∗ slabPts sentM c 1 (stack (sentOf m c)) -∗ wp frame (wpE (defs₀ (F := F)) 𝒱₀ (c : Thread nD τ) none) Set.univ (k PUnit.unit) Q)
          -∗ wp frame (wpE (defs₀ (F := F)) 𝒱₀ (c : Thread nD τ) none) Set.univ (k0_part28 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12 v881 >>= k) Q) := by
  rw [k0_part28_eq_skeleton]; unfold k0_part28_skel
  iintro ⟨#HI, #HL, Ho3, ⟨%W, HO⟩, Htickfs0, Htickbs0, Htickfs1⟩ Hk
  sl_exec
  rw [← h3]
  ihave Ho3 : (bandPts c 3 (outC q)) $$ [Ho3]
  · rw [← band_stored c 3 q (outC p)]; iexact Ho3
  iapply (wait_step m K c (fsS 0) (talks_fs 0) (O := debt c 0) (above_zero _) (dst := slab sentM 0) rfl) $$ [HO Htickfs0]
  · unfold ticket
    icases Htickfs0 with ⟨Hcr, Hat⟩
    isplitr; · iexact HI
    isplitl [Hcr]; · iexact Hcr
    isplitl [HO]; · iexact HO
    isplitr; · iexact HL
    iexact Hat
  rw [pay_fs]
  iintro ⟨⟨%W, HO⟩, Hspfs0, Hqfs0⟩
  (try sl_exec)
  iapply (wait_step m K c (bsS 0) (talks_bs 0) (O := debt c 0) (above_zero _) (dst := slab retM 0) rfl) $$ [HO Htickbs0]
  · unfold ticket
    icases Htickbs0 with ⟨Hcr, Hat⟩
    isplitr; · iexact HI
    isplitl [Hcr]; · iexact Hcr
    isplitl [HO]; · iexact HO
    isplitr; · iexact HL
    iexact Hat
  rw [pay_bs]
  iintro ⟨⟨%W, HO⟩, Hspbs0, Hqbs0⟩
  (try sl_exec)
  iapply (wait_step m K c (fsS 1) (talks_fs 1) (O := debt c 0) (above_zero _) (dst := slab sentM 1) rfl) $$ [HO Htickfs1]
  · unfold ticket
    icases Htickfs1 with ⟨Hcr, Hat⟩
    isplitr; · iexact HI
    isplitl [Hcr]; · iexact Hcr
    isplitl [HO]; · iexact HO
    isplitr; · iexact HL
    iexact Hat
  rw [pay_fs]
  iintro ⟨⟨%W, HO⟩, Hspfs1, Hqfs1⟩
  (try sl_exec)
  iapply Hk
  iframe
  iexists _; iexact HO
/-- Part 29: more of the sends' own waits. -/
theorem part29  {Q : α → sProp 𝕄} {k : _ → Prog (TpuEff nD τ sig (Elt F) Λ₀ .tc) α} :
    iprop(invs m K ∗ levAts L lv ∗ owing c 0 ∗ ticket c (bsS 1) ∗ ticket c (fsS 2) ∗ ticket c (bsS 2) ∗ ticket c (fsS 3))
      ⊢ iprop((owing c 0 ∗ spent c (bsS 1) ∗ spent c (fsS 2) ∗ spent c (bsS 2) ∗ spent c (fsS 3) ∗ slabPts retM c 1 (stack (retOf m c)) ∗ slabPts sentM c 2 (stack (sentOf m c)) ∗ slabPts retM c 2 (stack (retOf m c)) ∗ slabPts sentM c 3 (stack (sentOf m c)) -∗ wp frame (wpE (defs₀ (F := F)) 𝒱₀ (c : Thread nD τ) none) Set.univ (k PUnit.unit) Q)
          -∗ wp frame (wpE (defs₀ (F := F)) 𝒱₀ (c : Thread nD τ) none) Set.univ (k0_part29 (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12  >>= k) Q) := by
  rw [k0_part29_eq_skeleton]; unfold k0_part29_skel
  iintro ⟨#HI, #HL, ⟨%W, HO⟩, Htickbs1, Htickfs2, Htickbs2, Htickfs3⟩ Hk
  sl_exec
  iapply (wait_step m K c (bsS 1) (talks_bs 1) (O := debt c 0) (above_zero _) (dst := slab retM 1) rfl) $$ [HO Htickbs1]
  · unfold ticket
    icases Htickbs1 with ⟨Hcr, Hat⟩
    isplitr; · iexact HI
    isplitl [Hcr]; · iexact Hcr
    isplitl [HO]; · iexact HO
    isplitr; · iexact HL
    iexact Hat
  rw [pay_bs]
  iintro ⟨⟨%W, HO⟩, Hspbs1, Hqbs1⟩
  (try sl_exec)
  iapply (wait_step m K c (fsS 2) (talks_fs 2) (O := debt c 0) (above_zero _) (dst := slab sentM 2) rfl) $$ [HO Htickfs2]
  · unfold ticket
    icases Htickfs2 with ⟨Hcr, Hat⟩
    isplitr; · iexact HI
    isplitl [Hcr]; · iexact Hcr
    isplitl [HO]; · iexact HO
    isplitr; · iexact HL
    iexact Hat
  rw [pay_fs]
  iintro ⟨⟨%W, HO⟩, Hspfs2, Hqfs2⟩
  (try sl_exec)
  iapply (wait_step m K c (bsS 2) (talks_bs 2) (O := debt c 0) (above_zero _) (dst := slab retM 2) rfl) $$ [HO Htickbs2]
  · unfold ticket
    icases Htickbs2 with ⟨Hcr, Hat⟩
    isplitr; · iexact HI
    isplitl [Hcr]; · iexact Hcr
    isplitl [HO]; · iexact HO
    isplitr; · iexact HL
    iexact Hat
  rw [pay_bs]
  iintro ⟨⟨%W, HO⟩, Hspbs2, Hqbs2⟩
  (try sl_exec)
  iapply (wait_step m K c (fsS 3) (talks_fs 3) (O := debt c 0) (above_zero _) (dst := slab sentM 3) rfl) $$ [HO Htickfs3]
  · unfold ticket
    icases Htickfs3 with ⟨Hcr, Hat⟩
    isplitr; · iexact HI
    isplitl [Hcr]; · iexact Hcr
    isplitl [HO]; · iexact HO
    isplitr; · iexact HL
    iexact Hat
  rw [pay_fs]
  iintro ⟨⟨%W, HO⟩, Hspfs3, Hqfs3⟩
  (try sl_exec)
  iapply Hk
  iframe
  iexists _; iexact HO

end Cert.KernelIdeal.Moe

end
-- ==== Proof.KernelIdeal.Body.lean ====
/- The kernel's body on one device, run once at a symbolic device: from what the device holds before the launch's one
   grid point to what it holds after. -/
module

public import proofs.«01_k».proof.Proof.KernelIdeal.PartsA
public import proofs.«01_k».proof.Proof.KernelIdeal.PartsB
public import proofs.«01_k».proof.Proof.KernelIdeal.PartsC
public import Idealize.ShloMosaic.Lib.Tactic.Stretches

@[expose] public section

noncomputable section

namespace Cert.KernelIdeal.Moe

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-- The tokens a device holds for paying slab `i`'s four cells. -/
def toks (i : Fin 4) : sProp 𝕄 :=
  iprop(dutyTok (ER (F := F)) (cellOn c (fsS i)) 0 () ∗ reached (ER (F := F)) (cellOn c (fsS i)) 0 ∗ dutyTok (ER (F := F)) (cellOn (peer c) (frS i)) 0 ()
    ∗ dutyTok (ER (F := F)) (cellOn c (bsS i)) 0 () ∗ reached (ER (F := F)) (cellOn c (bsS i)) 0 ∗ dutyTok (ER (F := F)) (cellOn (peer c) (brS i)) 0 ())
/-- What a device carries for slab `i`: those tokens, that its receive cells are open, and its rights to wait. -/
def slabKit (i : Fin 4) : sProp 𝕄 :=
  iprop(toks c i ∗ (reached (ER (F := F)) (cellOn c (frS i)) 0 ∗ reached (ER (F := F)) (cellOn c (brS i)) 0)
    ∗ (atPos (ER (F := F)) (cellOn c (fsS i)) 0 ∅ 0 ∗ atPos (ER (F := F)) (cellOn c (bsS i)) 0 ∅ 0) ∗ ticket c (frS i) ∗ ticket c (brS i))

/-- The peer's slabs and a device's tokens make its two sends of slab `i`. -/
theorem kits (i : Fin 4) : iprop(give (peer c) i ∗ toks c i) ⊢ (iprop(sendKit c i ∗ retKit c i) : sProp 𝕄) := by
  unfold give toks sendKit retKit
  iintro ⟨⟨Hr, Hb, H1, H2⟩, Ht1, Hq1, Ht2, Ht3, Hq3, Ht4⟩
  iframe

/-- A four-slab buffer at anything is four slabs at anything. -/
theorem slabs_some (M : Memref sig .tc .vmem S4x288x1024 .bf16) (hM : M.view.set = Finset.univ) :
    (iprop(∃ f, held M c f) : sProp 𝕄) ⊢ iprop((∃ f, slabPts M c 0 f) ∗ (∃ f, slabPts M c 1 f) ∗ (∃ f, slabPts M c 2 f) ∗ (∃ f, slabPts M c 3 f)) := by
  unfold held
  iintro ⟨%f, H⟩
  ihave H := (Entails.of_eq (slabs_split M hM c f)) $$ H
  icases H with ⟨H0, H1, H2, H3⟩
  isplitl [H0]; · iexists _; iexact H0
  isplitl [H1]; · iexists _; iexact H1
  isplitl [H2]; · iexists _; iexact H2
  iexists _; iexact H3

/-- Four slabs of one array are the buffer at that array. -/
theorem slabs_join (M : Memref sig .tc .vmem S4x288x1024 .bf16) (hM : M.view.set = Finset.univ) (f : Buf (Elt F) (M.view.loc (c : Thread nD τ))) :
    (iprop(slabPts M c 0 f ∗ slabPts M c 1 f ∗ slabPts M c 2 f ∗ slabPts M c 3 f) : sProp 𝕄) ⊢ iprop(∃ f, held M c f) := by
  unfold held
  rw [← slabs_split M hM c f]
  iintro H
  iexists _; iexact H

theorem bands_some : (iprop(∃ f, held oM c f) : sProp 𝕄) ⊢ iprop((∃ f, bandPts c 0 f) ∗ (∃ f, bandPts c 1 f) ∗ (∃ f, bandPts c 2 f) ∗ (∃ f, bandPts c 3 f)) := by
  unfold held
  iintro ⟨%f, H⟩
  ihave H := (Entails.of_eq (bands_split c f)) $$ H
  icases H with ⟨H0, H1, H2, H3⟩
  isplitl [H0]; · iexists _; iexact H0
  isplitl [H1]; · iexists _; iexact H1
  isplitl [H2]; · iexists _; iexact H2
  iexists _; iexact H3

theorem mem_tileRect (s : Fin 2) (x : S2x1024x1024.Idx) : x ∈ (tileRect s).set ↔ x 0 = s := by
  rw [Rect.mem_set_unit]
  constructor
  · intro h
    have h0 : s.val ≤ (x 0 : ℕ) ∧ (x 0 : ℕ) < s.val + 1 := h 0
    exact Fin.ext (by omega)
  · intro h a
    match a with
    | ⟨0, _⟩ => show s.val ≤ (x 0 : ℕ) ∧ (x 0 : ℕ) < s.val + 1; rw [h]; omega
    | ⟨1, _⟩ => exact ⟨Nat.zero_le _, by show (x 1 : ℕ) < 0 + 1024; have := (x 1).isLt; change _ < 1024 at this; omega⟩
    | ⟨2, _⟩ => exact ⟨Nat.zero_le _, by show (x 2 : ℕ) < 0 + 1024; have := (x 2).isLt; change _ < 1024 at this; omega⟩

/-- A whole weight buffer is its two tiles. -/
theorem tiles_split (M : Memref sig .tc .vmem S2x1024x1024 .f32) (hM : M.view.set = Finset.univ) (f : Buf (Elt F) (M.view.loc (c : Thread nD τ))) :
    (M.view.loc (c : Thread nD τ) ↦{fullShare} f : sProp 𝕄) = iprop(tilePts M c 0 f ∗ tilePts M c 1 f) := by
  have hu : (Finset.univ : Finset M.view.ty.Idx) = M.view.setOn (tileRect 0).set ∪ M.view.setOn (tileRect 1).set := by
    rw [← hM]
    refine Finset.Subset.antisymm (fun y hy => ?_) (fun y _ => hM ▸ Finset.mem_univ y)
    obtain ⟨x, -, rfl⟩ := Finset.mem_map.mp hy
    have hk : x 0 = (0 : Fin 2) ∨ x 0 = (1 : Fin 2) := by
      have : ∀ k : Fin 2, k = 0 ∨ k = 1 := by decide
      exact this (x 0)
    rcases hk with h | h
    · exact Finset.mem_union_left _ (M.view.mem_setOn.mpr ((mem_tileRect 0 x).mpr h))
    · exact Finset.mem_union_right _ (M.view.mem_setOn.mpr ((mem_tileRect 1 x).mpr h))
  have d : Disjoint (M.view.setOn (tileRect 0).set) (M.view.setOn (tileRect 1).set) := by
    unfold View.setOn
    rw [Finset.disjoint_map, Finset.disjoint_left]
    intro x hi hj
    exact absurd (((mem_tileRect 0 x).mp hi).symm.trans ((mem_tileRect 1 x).mp hj)) (show ¬ (0 : Fin 2) = 1 by decide)
  show (M.view.loc (c : Thread nD τ) ↦[Finset.univ]{fullShare} f : sProp 𝕄) = _
  unfold tilePts
  rw [show (Finset.univ : Finset (Idx (M.view.loc (c : Thread nD τ)))) = _ from hu]
  have e := pointsTo_union (ℓ := M.view.loc (c : Thread nD τ)) (q := fullShare) (f := f) (Ix := Unit) (Name := ℕ) (U := UU) (Lvl := ℕ) d
  rw [Entails.antisymm e.1 e.2]

theorem tiles_some (M : Memref sig .tc .vmem S2x1024x1024 .f32) (hM : M.view.set = Finset.univ) :
    (iprop(∃ f, held M c f) : sProp 𝕄) ⊢ iprop((∃ f, tilePts M c 0 f) ∗ (∃ f, tilePts M c 1 f)) := by
  unfold held
  iintro ⟨%f, H⟩
  ihave H := (Entails.of_eq (tiles_split c M hM f)) $$ H
  icases H with ⟨H0, H1⟩
  isplitl [H0]; · iexists _; iexact H0
  iexists _; iexact H1
/-- Two tiles at whatever they hold are the buffer. -/
theorem tiles_join1 (u v : Vec F S1x1024x1024 .f32) :
    (iprop(tilePts b1M c 0 (pair fun _ => u) ∗ tilePts b1M c 1 (pair fun _ => v)) : sProp 𝕄) ⊢ iprop(∃ f, held b1M c f) := by
  have e0 : (tilePts b1M c 0 (pair fun _ => u) : sProp 𝕄) = tilePts b1M c 0 (pair ![u, v]) := by
    refine pointsTo_congr fun y hy => ?_
    obtain ⟨x, hx, rfl⟩ := Finset.mem_map.mp hy
    show u _ = (![u, v] : Fin 2 → Vec F S1x1024x1024 .f32) (x 0) _
    rw [(mem_tileRect 0 x).mp hx]; rfl
  have e1 : (tilePts b1M c 1 (pair fun _ => v) : sProp 𝕄) = tilePts b1M c 1 (pair ![u, v]) := by
    refine pointsTo_congr fun y hy => ?_
    obtain ⟨x, hx, rfl⟩ := Finset.mem_map.mp hy
    show v _ = (![u, v] : Fin 2 → Vec F S1x1024x1024 .f32) (x 0) _
    rw [(mem_tileRect 1 x).mp hx]; rfl
  rw [e0, e1]
  unfold held
  have e := tiles_split (F := F) c b1M (View.set_whole _) (pair ![u, v])
  rw [← e]
  iintro H
  iexists _; iexact H
/-- Two tiles at whatever they hold are the buffer. -/
theorem tiles_join2 (u v : Vec F S1x1024x1024 .f32) :
    (iprop(tilePts b2M c 0 (pair fun _ => u) ∗ tilePts b2M c 1 (pair fun _ => v)) : sProp 𝕄) ⊢ iprop(∃ f, held b2M c f) := by
  have e0 : (tilePts b2M c 0 (pair fun _ => u) : sProp 𝕄) = tilePts b2M c 0 (pair ![u, v]) := by
    refine pointsTo_congr fun y hy => ?_
    obtain ⟨x, hx, rfl⟩ := Finset.mem_map.mp hy
    show u _ = (![u, v] : Fin 2 → Vec F S1x1024x1024 .f32) (x 0) _
    rw [(mem_tileRect 0 x).mp hx]; rfl
  have e1 : (tilePts b2M c 1 (pair fun _ => v) : sProp 𝕄) = tilePts b2M c 1 (pair ![u, v]) := by
    refine pointsTo_congr fun y hy => ?_
    obtain ⟨x, hx, rfl⟩ := Finset.mem_map.mp hy
    show v _ = (![u, v] : Fin 2 → Vec F S1x1024x1024 .f32) (x 0) _
    rw [(mem_tileRect 1 x).mp hx]; rfl
  rw [e0, e1]
  unfold held
  have e := tiles_split (F := F) c b2M (View.set_whole _) (pair ![u, v])
  rw [← e]
  iintro H
  iexists _; iexact H

/-- Slab `i`'s four cells closed. -/
theorem close_four (i : Fin 4) : iprop(invs m K ∗ spent c (fsS i) ∗ spent c (frS i) ∗ spent c (bsS i) ∗ spent c (brS i))
    ⊢ (|={Set.univ}=> iprop(semVal (cellOn c (fsS i)) 0 ∗ semVal (cellOn c (frS i)) 0 ∗ semVal (cellOn c (bsS i)) 0 ∗ semVal (cellOn c (brS i)) 0) : sProp 𝕄) := by
  iintro ⟨#HI, H1, H2, H3, H4⟩
  imod (close_step m K c (.dma (fsS i)) (talks_fs i)) $$ [H1] with H1
  · isplitr; · iexact HI
    iexact H1
  imod (close_step m K c (.dma (frS i)) (talks_fr i)) $$ [H2] with H2
  · isplitr; · iexact HI
    iexact H2
  imod (close_step m K c (.dma (bsS i)) (talks_bs i)) $$ [H3] with H3
  · isplitr; · iexact HI
    iexact H3
  imod (close_step m K c (.dma (brS i)) (talks_br i)) $$ [H4] with H4
  · isplitr; · iexact HI
    iexact H4
  imodintro
  iframe

/-- What device `c` holds before the body. -/
def bodyPre : sProp 𝕄 :=
  iprop(invs m K ∗ levAts L lv ∗ owing c 9
    ∗ (dutyTok (ER (F := F)) (barCell (peer c)) 0 () ∗ reached (ER (F := F)) (barCell (peer c)) 0 ∗ atPos (ER (F := F)) (barCell c) 0 ∅ 0 ∗ cred (tallyAt (barCell c) () 1))
    ∗ (slabKit c 0 ∗ slabKit c 1 ∗ slabKit c 2 ∗ slabKit c 3)
    ∗ (wfree c (w1S 0) ∗ wfree c (w1S 1) ∗ wfree c (w2S 0) ∗ wfree c (w2S 1))
    ∗ (held aM c (aOf m c) ∗ held xM c (xOf m c) ∗ held w1M c (w1Of m c) ∗ held w2M c (w2Of m c) ∗ (∃ f, held oM c f))
    ∗ (∃ f, held sentM c f) ∗ (∃ f, held recvM c f) ∗ (∃ f, held retM c f) ∗ (∃ f, held backM c f) ∗ (∃ f, held mineM c f)
    ∗ (∃ f, held b1M c f) ∗ (∃ f, held b2M c f))

/-- Slab `i`'s cells at zero. -/
def idle (i : Fin 4) : sProp 𝕄 := iprop(semVal (cellOn c (fsS i)) 0 ∗ semVal (cellOn c (frS i)) 0 ∗ semVal (cellOn c (bsS i)) 0 ∗ semVal (cellOn c (brS i)) 0)

/-- What device `c` holds after it: every cell at zero, nothing owed, its operands as they were, and the output. -/
def bodyPost : sProp 𝕄 :=
  iprop(owing c 0 ∗ semVal (barCell c) 0 ∗ (idle c 0 ∗ idle c 1 ∗ idle c 2 ∗ idle c 3)
    ∗ (wfree c (w1S 0) ∗ wfree c (w1S 1) ∗ wfree c (w2S 0) ∗ wfree c (w2S 1))
    ∗ (held aM c (aOf m c) ∗ held xM c (xOf m c) ∗ held w1M c (w1Of m c) ∗ held w2M c (w2Of m c) ∗ held oM c (outOf m c))
    ∗ (∃ f, held sentM c f) ∗ (∃ f, held recvM c f) ∗ (∃ f, held retM c f) ∗ (∃ f, held backM c f) ∗ (∃ f, held mineM c f)
    ∗ (∃ f, held b1M c f) ∗ (∃ f, held b2M c f))

/-- The output's quarters after the device's own results. -/
def firstV : Fin 4 → Vec F S512x1024 .f32
  | ⟨0, _⟩ => k0_pay69 (smv (myWord c) (aOf m c)) (stack (mineOf m c))
  | ⟨1, _⟩ => k0_pay70 (smv (myWord c) (aOf m c)) (stack (mineOf m c))
  | ⟨2, _⟩ => k0_pay71 (smv (myWord c) (aOf m c)) (stack (mineOf m c))
  | ⟨_ + 3, _⟩ => k0_pay72 (smv (myWord c) (aOf m c)) (stack (mineOf m c))
/-- And after the peer's. -/
def lastV : Fin 4 → Vec F S512x1024 .f32 := outV (myWord c) (aOf m c) (stack (mineOf m c)) (stack (retOf m (peer c)))

set_option maxHeartbeats 2000000 in
/-- The body, from `bodyPre` to `bodyPost`. -/
theorem body_run {Q : PUnit → sProp 𝕄} :
    bodyPre m K c ⊢ iprop((bodyPost m c -∗ Q ⟨⟩) -∗ wp frame (wpE (defs₀ (F := F)) 𝒱₀ (c : Thread nD τ) none) Set.univ (cc0_body (F := F) aM (Memref.isWhole_whole _) xM (Memref.isWhole_whole _) w1M (Memref.isWhole_whole _) w2M (Memref.isWhole_whole _) oM (Memref.isWhole_whole _) sentM (Memref.isWhole_whole _) recvM (Memref.isWhole_whole _) retM (Memref.isWhole_whole _) backM (Memref.isWhole_whole _) mineM (Memref.isWhole_whole _) b1M (Memref.isWhole_whole _) b2M (Memref.isWhole_whole _) cc0_scratch7 cc0_scratch8 cc0_scratch9 cc0_scratch10 cc0_scratch11 cc0_scratch12) Q) := by
  rw [cc0_body_eq_skeleton]
  unfold cc0_body_skel bodyPre slabKit
  iintro ⟨#HI, #HL, HO, ⟨Hbt, Hbr, Hat, Hcr⟩, ⟨⟨Htk0, ⟨Hqr0, Hqb0⟩, ⟨Hafs0, Habs0⟩, Hkfr0, Hkbr0⟩, ⟨Htk1, ⟨Hqr1, Hqb1⟩, ⟨Hafs1, Habs1⟩, Hkfr1, Hkbr1⟩, ⟨Htk2, ⟨Hqr2, Hqb2⟩, ⟨Hafs2, Habs2⟩, Hkfr2, Hkbr2⟩, ⟨Htk3, ⟨Hqr3, Hqb3⟩, ⟨Hafs3, Habs3⟩, Hkfr3, Hkbr3⟩⟩, ⟨Hf10, Hf11, Hf20, Hf21⟩, ⟨Ha, Hx, H1, H2, Ho⟩, Hs, Hv, Hr, Hy, Hm, Hb1, Hb2⟩ Hk
  ihave Hs := (slabs_some c sentM (View.set_whole _)) $$ Hs
  icases Hs with ⟨Hs0, Hs1, Hs2, Hs3⟩
  ihave Hr := (slabs_some c retM (View.set_whole _)) $$ Hr
  icases Hr with ⟨Hr0, Hr1, Hr2, Hr3⟩
  ihave Hv := (slabs_some c recvM (View.set_whole _)) $$ Hv
  icases Hv with ⟨Hv0, Hv1, Hv2, Hv3⟩
  ihave Hy := (slabs_some c backM (View.set_whole _)) $$ Hy
  icases Hy with ⟨Hy0, Hy1, Hy2, Hy3⟩
  ihave Hm := (slabs_some c mineM (View.set_whole _)) $$ Hm
  icases Hm with ⟨Hm0, Hm1, Hm2, Hm3⟩
  ihave Hb1 := (tiles_some c b1M (View.set_whole _)) $$ Hb1
  icases Hb1 with ⟨Hb10, Hb11⟩
  ihave Hb2 := (tiles_some c b2M (View.set_whole _)) $$ Hb2
  icases Hb2 with ⟨Hb20, Hb21⟩
  ihave Ho := (bands_some c) $$ Ho
  icases Ho with ⟨Ho0, Ho1, Ho2, Ho3⟩
  ihave Hg0 : (give c 0) $$ [Hv0 Hy0 Hqr0 Hqb0]
  · unfold give; iframe
  ihave Hg1 : (give c 1) $$ [Hv1 Hy1 Hqr1 Hqb1]
  · unfold give; iframe
  ihave Hg2 : (give c 2) $$ [Hv2 Hy2 Hqr2 Hqb2]
  · unfold give; iframe
  ihave Hg3 : (give c 3) $$ [Hv3 Hy3 Hqr3 Hqb3]
  · unfold give; iframe
  iapply (part1 m K c (w1 := w1Of m c) (w2 := w2Of m c)) $$ [H1 H2 Hb10 Hb20 Hf10 Hf20 HO Hbt Hbr Hg0 Hg1 Hg2 Hg3]
  · isplitr; · iexact HI
    isplitr; · iexact HL
    iframe
  iintro ⟨Hfly1, Hfly2, HO⟩
  iapply (part2 m K c (a := aOf m c)) $$ [HO Hcr Hat Ha]
  · isplitr; · iexact HI
    isplitr; · iexact HL
    iframe
  iintro ⟨HO, Hbar, Hg0, Hg1, Hg2, Hg3, Ha⟩
  ihave Hk0 := (kits (F := F) c 0) $$ [Hg0 Htk0]
  · iframe
  icases Hk0 with ⟨Hsk0, Hrk0⟩
  ihave Hk1 := (kits (F := F) c 1) $$ [Hg1 Htk1]
  · iframe
  icases Hk1 with ⟨Hsk1, Hrk1⟩
  ihave Hk2 := (kits (F := F) c 2) $$ [Hg2 Htk2]
  · iframe
  icases Hk2 with ⟨Hsk2, Hrk2⟩
  ihave Hk3 := (kits (F := F) c 3) $$ [Hg3 Htk3]
  · iframe
  icases Hk3 with ⟨Hsk3, Hrk3⟩
  iapply (part3 (F := F) c)
  · iempintro
  iintro -
  iapply (part4 m K c (x := xOf m c) (hv := rfl)) $$ [Hx Hs0]
  · isplitr; · iexact HI
    isplitr; · iexact HL
    iframe
  iintro ⟨Hx, Hs0⟩
  iapply (part5 m K c (hv := rfl)) $$ [Hs0 Hs1 HO Hsk0 Hsk1]
  · isplitr; · iexact HI
    isplitr; · iexact HL
    iframe
  iintro ⟨Hcf0, Hcf1, HO⟩
  iapply (part6 m K c (hv2 := rfl) (hv3 := rfl)) $$ [Hs2 Hs3 HO Hsk2]
  · isplitr; · iexact HI
    isplitr; · iexact HL
    iframe
  iintro ⟨Hcf2, Hs3, HO⟩
  iapply (part7 m K c (w1 := w1Of m c)) $$ [Hs3 HO Hsk3 Hfly1]
  · isplitr; · iexact HI
    isplitr; · iexact HL
    iframe
  iintro ⟨Hcf3, HO, H1, Hb10, Hf10⟩
  iapply (part8 m K c (w1 := w1Of m c) (w2 := w2Of m c)) $$ [HO Hfly2 H1 Hb10 Hb11 Hb21 Hf11 Hf21]
  · isplitr; · iexact HI
    isplitr; · iexact HL
    iframe
  iintro ⟨HO, Hfly1, Hfly2, Hb10, Hb20, Hf20⟩
  iapply (part9 m K c (w1 := w1Of m c) (r := sentOf m (peer c)) (hr := rfl)) $$ [HO Hkfr0 Hfly1]
  · isplitr; · iexact HI
    isplitr; · iexact HL
    iframe
  iintro ⟨HO, Hspfr0, Hv0, H1, Hb11, Hf11⟩
  iapply (part10 m K c (w1 := w1Of m c) (w2 := w2Of m c)) $$ [HO Hfly2 H1 Hb11 Hb10 Hb20 Hf10 Hf20]
  · isplitr; · iexact HI
    isplitr; · iexact HL
    iframe
  iintro ⟨HO, Hfly1, Hfly2, Hb11, Hb21, Hf21⟩
  iapply (part11 m K c (hr := rfl) (hm := rfl)) $$ [HO Hr0 Hrk0 Hm0]
  · isplitr; · iexact HI
    isplitr; · iexact HL
    iframe
  iintro ⟨HO, Hcb0, Hm0⟩
  iapply (part12 m K c (w1 := w1Of m c) (w2 := w2Of m c)) $$ [HO Hfly1 Hfly2 Hb11 Hb21 Hf11 Hf21]
  · isplitr; · iexact HI
    isplitr; · iexact HL
    iframe
  iintro ⟨HO, Hfly1, Hfly2, Hb10, Hb20, Hf10, Hf20⟩
  iapply (part13 m K c (w2 := w2Of m c) (r := sentOf m (peer c)) (hr := rfl)) $$ [HO Hkfr1 Hb20]
  · isplitr; · iexact HI
    isplitr; · iexact HL
    iframe
  iintro ⟨HO, Hspfr1, Hv1, Hb20⟩
  iapply (part14 m K c (w1 := w1Of m c) (w2 := w2Of m c)) $$ [HO Hfly1 Hfly2 Hb10 Hb20 Hf10 Hf20]
  · isplitr; · iexact HI
    isplitr; · iexact HL
    iframe
  iintro ⟨HO, Hfly1, Hfly2, Hb11, Hb21, Hf11, Hf21⟩
  iapply (part15 m K c (hr := rfl) (hm := rfl)) $$ [HO Hr1 Hrk1 Hm1]
  · isplitr; · iexact HI
    isplitr; · iexact HL
    iframe
  iintro ⟨HO, Hcb1, Hm1⟩
  iapply (part16 m K c (w1 := w1Of m c) (w2 := w2Of m c)) $$ [HO Hfly1 Hfly2 Hb11 Hf11]
  · isplitr; · iexact HI
    isplitr; · iexact HL
    iframe
  iintro ⟨HO, Hfly1, H2, Hb10, Hb20, Hf10, Hf20⟩
  iapply (part17 m K c (w1 := w1Of m c) (w2 := w2Of m c) (r := sentOf m (peer c)) (hr := rfl)) $$ [HO H2 Hb21 Hf21 Hb10 Hb20 Hkfr2]
  · isplitr; · iexact HI
    isplitr; · iexact HL
    iframe
  iintro ⟨HO, Hfly2, Hspfr2, Hv2, Hb10, Hb20⟩
  iapply (part18 m K c (w1 := w1Of m c) (w2 := w2Of m c)) $$ [HO Hfly1 Hfly2 Hb10 Hf10]
  · isplitr; · iexact HI
    isplitr; · iexact HL
    iframe
  iintro ⟨HO, Hfly1, H2, Hb11, Hb21, Hf11, Hf21⟩
  iapply (part19 m K c (w1 := w1Of m c) (w2 := w2Of m c) (hr := rfl)) $$ [H2 Hb20 Hf20 Hb11 Hb21 Hr2]
  · isplitr; · iexact HI
    isplitr; · iexact HL
    iframe
  iintro ⟨Hfly2, Hb11, Hb21, Hr2⟩
  iapply (part20 m K c (w1 := w1Of m c) (hm := rfl)) $$ [HO Hr2 Hrk2 Hm2 Hfly1]
  · isplitr; · iexact HI
    isplitr; · iexact HL
    iframe
  iintro ⟨HO, Hcb2, Hm2, H1, Hb10, Hf10⟩
  iapply (part21 m K c (w1 := w1Of m c) (w2 := w2Of m c)) $$ [HO Hfly2 H1 Hb10 Hb11 Hb21 Hf11 Hf21]
  · isplitr; · iexact HI
    isplitr; · iexact HL
    iframe
  iintro ⟨HO, Hfly1, Hfly2, Hb10, Hb20, Hf20⟩
  iapply (part22 m K c (w1 := w1Of m c) (w2 := w2Of m c) (r := sentOf m (peer c)) (hr := rfl)) $$ [HO Hkfr3 Hfly1 Hfly2]
  · isplitr; · iexact HI
    isplitr; · iexact HL
    iframe
  iintro ⟨HO, Hspfr3, Hv3, H1, H2, Hb11, Hb21, Hf11, Hf21⟩
  iapply (part23 m K c (w2 := w2Of m c) (hr := rfl)) $$ [HO Hb21 Hr3 Hrk3]
  · isplitr; · iexact HI
    isplitr; · iexact HL
    iframe
  iintro ⟨HO, Hcb3, Hb21⟩
  iapply (part24 m K c (hm := rfl) (p := firstV m c) (h0 := rfl) (h1 := rfl) (h2 := rfl)) $$ [Hm0 Hm1 Hm2 Hm3 Ho0 Ho1 Ho2]
  · isplitr; · iexact HI
    isplitr; · iexact HL
    iframe
  iintro ⟨Hm, Ho0, Ho1, Ho2⟩
  iapply (part25 m K c (p := firstV m c) (h3 := rfl)) $$ [Ho3 HO Hkbr0 Hkbr1]
  · isplitr; · iexact HI
    isplitr; · iexact HL
    iframe
  iintro ⟨HO, Ho3, Hspbr0, Hspbr1, Hy0, Hy1⟩
  iapply (part26 m K c (p := firstV m c)) $$ [Hy0 Hy1 HO Hkbr2 Hkbr3 Ho0]
  · isplitr; · iexact HI
    isplitr; · iexact HL
    iframe
  iintro ⟨HO, Ho0, Hspbr2, Hspbr3, Hy⟩
  iapply (part27 m K c (p := firstV m c) (q := lastV m c) (h0 := rfl) (h1 := rfl) (h2 := rfl)) $$ [Ho0 Ho1 Ho2 Ho3]
  · isplitr; · iexact HI
    isplitr; · iexact HL
    iframe
  iintro ⟨Ho0, Ho1, Ho2, Ho3⟩
  ihave Hkfs0 : (ticket c (fsS 0)) $$ [Hcf0 Hafs0]
  · unfold ticket; iframe
  ihave Hkfs1 : (ticket c (fsS 1)) $$ [Hcf1 Hafs1]
  · unfold ticket; iframe
  ihave Hkfs2 : (ticket c (fsS 2)) $$ [Hcf2 Hafs2]
  · unfold ticket; iframe
  ihave Hkfs3 : (ticket c (fsS 3)) $$ [Hcf3 Hafs3]
  · unfold ticket; iframe
  ihave Hkbs0 : (ticket c (bsS 0)) $$ [Hcb0 Habs0]
  · unfold ticket; iframe
  ihave Hkbs1 : (ticket c (bsS 1)) $$ [Hcb1 Habs1]
  · unfold ticket; iframe
  ihave Hkbs2 : (ticket c (bsS 2)) $$ [Hcb2 Habs2]
  · unfold ticket; iframe
  ihave Hkbs3 : (ticket c (bsS 3)) $$ [Hcb3 Habs3]
  · unfold ticket; iframe
  iapply (part28 m K c (p := firstV m c) (q := lastV m c) (h3 := rfl)) $$ [Ho3 HO Hkfs0 Hkbs0 Hkfs1]
  · isplitr; · iexact HI
    isplitr; · iexact HL
    iframe
  iintro ⟨HO, Ho3, Hspfs0, Hspbs0, Hspfs1, Hs0, Hr0, Hs1⟩
  iapply (part29 m K c ) $$ [HO Hkbs1 Hkfs2 Hkbs2 Hkfs3]
  · isplitr; · iexact HI
    isplitr; · iexact HL
    iframe
  iintro ⟨HO, Hspbs1, Hspfs2, Hspbs2, Hspfs3, Hr1, Hs2, Hr2, Hs3⟩
  sl_exec
  icases HO with ⟨%W, HO⟩
  iapply (wait_step m K c (bsS 3) (talks_bs 3) (O := debt c 0) (above_zero _) (dst := slab retM 3) rfl) $$ [HO Hkbs3]
  · unfold ticket
    icases Hkbs3 with ⟨Hcr, Hat⟩
    isplitr; · iexact HI
    isplitl [Hcr]; · iexact Hcr
    isplitl [HO]; · iexact HO
    isplitr; · iexact HL
    iexact Hat
  rw [pay_bs]
  iintro ⟨HO, Hspbs3, Hr3⟩
  sl_exec
  imod (close_four m K c 0) $$ [Hspfs0 Hspfr0 Hspbs0 Hspbr0] with Hid0
  · isplitr; · iexact HI
    iframe
  imod (close_four m K c 1) $$ [Hspfs1 Hspfr1 Hspbs1 Hspbr1] with Hid1
  · isplitr; · iexact HI
    iframe
  imod (close_four m K c 2) $$ [Hspfs2 Hspfr2 Hspbs2 Hspbr2] with Hid2
  · isplitr; · iexact HI
    iframe
  imod (close_four m K c 3) $$ [Hspfs3 Hspfr3 Hspbs3 Hspbr3] with Hid3
  · isplitr; · iexact HI
    iframe
  imod (close_step m K c (.reg barS) talks_bar) $$ [Hbar] with Hbar
  · isplitr; · iexact HI
    iexact Hbar
  ihave Hs := (slabs_join c sentM (View.set_whole _) _) $$ [Hs0 Hs1 Hs2 Hs3]
  · iframe
  ihave Hr := (slabs_join c retM (View.set_whole _) _) $$ [Hr0 Hr1 Hr2 Hr3]
  · iframe
  ihave Hv := (slabs_join c recvM (View.set_whole _) _) $$ [Hv0 Hv1 Hv2 Hv3]
  · iframe
  ihave Hb1 := (tiles_join1 (F := F) c _ _) $$ [Hb10 Hb11]
  · iframe
  ihave Hb2 := (tiles_join2 (F := F) c _ _) $$ [Hb20 Hb21]
  · iframe
  ihave Ho : (held oM c (outOf m c)) $$ [Ho0 Ho1 Ho2 Ho3]
  · unfold held; rw [bands_split c (outOf m c), show outOf m c = outC (lastV m c) from rfl]; iframe
  sl_step
  iapply Hk
  unfold bodyPost idle
  iframe
  isplitl [Hy]; · iexists _; iexact Hy
  iexists _; iexact Hm

end Cert.KernelIdeal.Moe

end
-- ==== Proof.KernelIdeal.Region.lean ====
/- The kernel's one region: what enters it (the exchange's cells opened, the weights, the scratch buffers), what leaves
   it (every cell at zero, the output block), and its record for the launch. -/
module

public import proofs.«01_k».proof.Proof.KernelIdeal.Body
public import proofs.«01_k».proof.Proof.Gen.KernelIdeal.Frame
public import Idealize.ShloMosaic.Lib.Pipeline.RegionTalk
public import Idealize.ShloMosaic.Lib.Pipeline.ValueKit.Geometry

@[expose] public section

noncomputable section

namespace Cert.KernelIdeal.Moe

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Tactic
open Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-! ## The kernel's own semaphores -/

/-- The weight copies' four semaphores. -/
def wS : Fin 4 → DmaSem sig
  | 0 => w1S 0
  | 1 => w1S 1
  | 2 => w2S 0
  | _ => w2S 1
/-- Slab `i`'s semaphore of family `f`; family 4 is the weight copies'. -/
def semAt (i : Fin 4) : Fin 5 → DmaSem sig
  | 0 => fsS i
  | 1 => frS i
  | 2 => bsS i
  | 3 => brS i
  | _ => wS i
/-- The kernel's own semaphores. -/
abbrev osem (p : Fin 4 × Fin 5) : SemLoc sig := .dma (semAt p.1 p.2)

/-- The four weight cells, free. -/
def rows : sProp 𝕄 := iprop(wfree c (w1S 0) ∗ wfree c (w1S 1) ∗ wfree c (w2S 0) ∗ wfree c (w2S 1))

theorem fin4_chain (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem fin5_chain (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem own_in : (Pipeline.ownSems0 osem c : sProp 𝕄) ⊢ iprop((idle c 0 ∗ idle c 1 ∗ idle c 2 ∗ idle c 3) ∗ rows c) := by
  unfold Pipeline.ownSems0
  rw [bigSep_univ_prod, fin4_chain]
  simp only [fin5_chain]
  unfold idle rows wfree
  iintro ⟨⟨H00, H01, H02, H03, H04⟩, ⟨H10, H11, H12, H13, H14⟩, ⟨H20, H21, H22, H23, H24⟩, ⟨H30, H31, H32, H33, H34⟩⟩
  isplitl [H00 H01 H02 H03 H10 H11 H12 H13 H20 H21 H22 H23 H30 H31 H32 H33]
  · isplitl [H00 H01 H02 H03]; · isplitl [H00]; · iexact H00
                                 isplitl [H01]; · iexact H01
                                 isplitl [H02]; · iexact H02
                                 iexact H03
    isplitl [H10 H11 H12 H13]; · isplitl [H10]; · iexact H10
                                 isplitl [H11]; · iexact H11
                                 isplitl [H12]; · iexact H12
                                 iexact H13
    isplitl [H20 H21 H22 H23]; · isplitl [H20]; · iexact H20
                                 isplitl [H21]; · iexact H21
                                 isplitl [H22]; · iexact H22
                                 iexact H23
    isplitl [H30]; · iexact H30
    isplitl [H31]; · iexact H31
    isplitl [H32]; · iexact H32
    iexact H33
  isplitl [H04]; · iexact H04
  isplitl [H14]; · iexact H14
  isplitl [H24]; · iexact H24
  iexact H34

theorem own_out : iprop((idle c 0 ∗ idle c 1 ∗ idle c 2 ∗ idle c 3) ∗ rows c) ⊢ (Pipeline.ownSems0 osem c : sProp 𝕄) := by
  unfold Pipeline.ownSems0
  rw [bigSep_univ_prod, fin4_chain]
  simp only [fin5_chain]
  unfold idle rows wfree
  iintro ⟨⟨⟨H00, H01, H02, H03⟩, ⟨H10, H11, H12, H13⟩, ⟨H20, H21, H22, H23⟩, ⟨H30, H31, H32, H33⟩⟩, H04, H14, H24, H34⟩
  isplitl [H00 H01 H02 H03 H04]; · isplitl [H00]; · iexact H00
                                   isplitl [H01]; · iexact H01
                                   isplitl [H02]; · iexact H02
                                   isplitl [H03]; · iexact H03
                                   iexact H04
  isplitl [H10 H11 H12 H13 H14]; · isplitl [H10]; · iexact H10
                                   isplitl [H11]; · iexact H11
                                   isplitl [H12]; · iexact H12
                                   isplitl [H13]; · iexact H13
                                   iexact H14
  isplitl [H20 H21 H22 H23 H24]; · isplitl [H20]; · iexact H20
                                   isplitl [H21]; · iexact H21
                                   isplitl [H22]; · iexact H22
                                   isplitl [H23]; · iexact H23
                                   iexact H24
  isplitl [H30]; · iexact H30
  isplitl [H31]; · iexact H31
  isplitl [H32]; · iexact H32
  isplitl [H33]; · iexact H33
  iexact H34

/-! ## What comes to the region from the launch, and the cells opened at its entry -/

/-- Slab `i`'s part of it: the rights to open its four cells, the tokens of what the device pays, the credit of what it
    waits for. -/
def slabLaunch (i : Fin 4) : sProp 𝕄 :=
  iprop((openTok (ER (F := F)) (cellOn c (fsS i)) ∗ openTok (ER (F := F)) (cellOn c (frS i)) ∗ openTok (ER (F := F)) (cellOn c (bsS i)) ∗ openTok (ER (F := F)) (cellOn c (brS i)))
    ∗ (dutyTok (ER (F := F)) (cellOn c (fsS i)) 0 () ∗ dutyTok (ER (F := F)) (cellOn (peer c) (frS i)) 0 ()
      ∗ dutyTok (ER (F := F)) (cellOn c (bsS i)) 0 () ∗ dutyTok (ER (F := F)) (cellOn (peer c) (brS i)) 0 ())
    ∗ (cred (tallyAt (cellOn c (frS i)) () N) ∗ cred (tallyAt (cellOn c (brS i)) () N)))

/-- The barrier's part. -/
def barKit : sProp 𝕄 :=
  iprop(dutyTok (ER (F := F)) (barCell (peer c)) 0 () ∗ reached (ER (F := F)) (barCell (peer c)) 0 ∗ atPos (ER (F := F)) (barCell c) 0 ∅ 0 ∗ cred (tallyAt (barCell c) () 1))

/-- All of it. -/
def Tk : sProp 𝕄 := iprop(∃ K, invs m K ∗ barKit c ∗ slabLaunch c 0 ∗ slabLaunch c 1 ∗ slabLaunch c 2 ∗ slabLaunch c 3)

/-- The cells opened. -/
def Xk : sProp 𝕄 :=
  iprop(∃ K, invs m K ∗ levAts L lv ∗ barKit c ∗ (slabKit c 0 ∗ slabKit c 1 ∗ slabKit c 2 ∗ slabKit c 3) ∗ rows c)

/-- What is kept after it. -/
def Yk : sProp 𝕄 := semVal (barCell c) 0

theorem open_slab (i : Fin 4) : iprop(invs m K ∗ slabLaunch c i ∗ idle c i) ⊢ (|={Set.univ}=> slabKit c i : sProp 𝕄) := by
  unfold slabLaunch idle slabKit toks ticket
  iintro ⟨#HI, ⟨⟨Ho1, Ho2, Ho3, Ho4⟩, ⟨Ht1, Ht2, Ht3, Ht4⟩, Hc2, Hc4⟩, Hv1, Hv2, Hv3, Hv4⟩
  imod (Rounds.cell_open (ER (F := F)) (rd m) (g := cellOn c (fsS i)) (Set.mem_univ (K (cellOn c (fsS i))))) $$ [Ho1 Hv1] with ⟨Ha1, Hr1⟩
  · isplitr; · iapply (invs_at m K c _ (talks_fs i)); iexact HI
    isplitl [Ho1] <;> iassumption
  imod (Rounds.cell_open (ER (F := F)) (rd m) (g := cellOn c (frS i)) (Set.mem_univ (K (cellOn c (frS i))))) $$ [Ho2 Hv2] with ⟨Ha2, Hr2⟩
  · isplitr; · iapply (invs_at m K c _ (talks_fr i)); iexact HI
    isplitl [Ho2] <;> iassumption
  imod (Rounds.cell_open (ER (F := F)) (rd m) (g := cellOn c (bsS i)) (Set.mem_univ (K (cellOn c (bsS i))))) $$ [Ho3 Hv3] with ⟨Ha3, Hr3⟩
  · isplitr; · iapply (invs_at m K c _ (talks_bs i)); iexact HI
    isplitl [Ho3] <;> iassumption
  imod (Rounds.cell_open (ER (F := F)) (rd m) (g := cellOn c (brS i)) (Set.mem_univ (K (cellOn c (brS i))))) $$ [Ho4 Hv4] with ⟨Ha4, Hr4⟩
  · isplitr; · iapply (invs_at m K c _ (talks_br i)); iexact HI
    isplitl [Ho4] <;> iassumption
  imodintro
  iframe

theorem hopen : iprop(Tk m c ∗ Pipeline.ownSems0 osem c ∗ levAts L lv) ⊢ (|={Set.univ}=> Xk m c : sProp 𝕄) := by
  unfold Tk Xk
  iintro ⟨⟨%K, #HI, Hb, H0, H1, H2, H3⟩, Hos, #HL⟩
  ihave Hos := (own_in c) $$ Hos
  icases Hos with ⟨⟨Hi0, Hi1, Hi2, Hi3⟩, Hw⟩
  imod (open_slab m K c 0) $$ [H0 Hi0] with H0
  · isplitr; · iexact HI
    isplitl [H0] <;> iassumption
  imod (open_slab m K c 1) $$ [H1 Hi1] with H1
  · isplitr; · iexact HI
    isplitl [H1] <;> iassumption
  imod (open_slab m K c 2) $$ [H2 Hi2] with H2
  · isplitr; · iexact HI
    isplitl [H2] <;> iassumption
  imod (open_slab m K c 3) $$ [H3 Hi3] with H3
  · isplitr; · iexact HI
    isplitl [H3] <;> iassumption
  imodintro
  iexists K
  isplitr; · iexact HI
  isplitr; · iexact HL
  iframe

/-! ## The proof data -/

/-- The seven scratch buffers at whatever they hold. -/
def scratch : sProp 𝕄 :=
  iprop((∃ f, held sentM c f) ∗ (∃ f, held recvM c f) ∗ (∃ f, held retM c f) ∗ (∃ f, held backM c f) ∗ (∃ f, held mineM c f)
    ∗ (∃ f, held b1M c f) ∗ (∃ f, held b2M c f))
/-- The weights. -/
def weights : sProp 𝕄 := iprop(held w1M c (w1Of m c) ∗ held w2M c (w2Of m c))
/-- Before the body. -/
def phi0 : sProp 𝕄 := iprop(Xk m c ∗ weights m c ∗ scratch c ∗ ∃ r, prngReg c r)
/-- After it. -/
def phi1 : sProp 𝕄 :=
  iprop(Yk c ∗ ((idle c 0 ∗ idle c 1 ∗ idle c 2 ∗ idle c 3) ∗ rows c) ∗ weights m c ∗ scratch c ∗ ∃ r, prngReg c r)

def dat : Dat τ (Elt F) Unit ℕ UU ℕ cfg0 c where
  A w := V m c (Pipeline.arrRef spec0 w)
  after
    | 0, t => iblk m c 0 t
    | 1, t => iblk m c 1 t
    | 2, _ => outOf m c
  Φ t := if t.val = 0 then phi0 m c else phi1 m c
  q _ := fullShare
  owed t := if t.val = 0 then debt c 9 else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun
  | ⟨0, _⟩ => fun c => dat m c

theorem owesAt_intro {cfg : Pipeline.Cfg sig Λ₀} {c : Dev nD} (d : Dat τ (Elt F) Unit ℕ UU ℕ cfg c) (t : Fin (cfg.N + 1))
    (O : CellTallies nD τ sig Unit) (h0 : d.owed t = O) (W : Waits sig Unit) (hr : d.recorded t = Set.univ) :
    (owes (c : Thread nD τ) O W : sProp 𝕄) ⊢ (d.owesAt () t : sProp 𝕄) := by
  unfold Dat.owesAt Pipeline.owesWithin Dat.bound
  rw [h0, hr]
  iintro H
  iexists W
  isplitr; · ipureintro; exact fun _ _ => Or.inl trivial
  iexact H
theorem owesAt_elim {cfg : Pipeline.Cfg sig Λ₀} {c : Dev nD} (d : Dat τ (Elt F) Unit ℕ UU ℕ cfg c) (t : Fin (cfg.N + 1))
    (O : CellTallies nD τ sig Unit) (h0 : d.owed t = O) : (d.owesAt () t : sProp 𝕄) ⊢ iprop(∃ W, owes (c : Thread nD τ) O W) := by
  unfold Dat.owesAt Pipeline.owesWithin
  rw [h0]
  iintro ⟨%W, -, H⟩
  iexists W; iexact H

theorem owed_first : (dat (F := F) m c).owed t0_0.castSucc = debt c 9 := by
  show (if (t0_0.castSucc : Fin (cfg0.N + 1)).val = 0 then debt c 9 else 0) = debt c 9
  exact if_pos rfl
theorem owed_last : (dat (F := F) m c).owed t0_0.succ = debt c 0 := by
  show (if (t0_0.succ : Fin (cfg0.N + 1)).val = 0 then debt c 9 else 0) = 0
  exact if_neg (by rw [Fin.val_succ]; omega)
theorem phi_first : (dat m c).Φ t0_0.castSucc = phi0 m c := by
  show (if (t0_0.castSucc : Fin (cfg0.N + 1)).val = 0 then phi0 m c else phi1 m c) = phi0 m c
  exact if_pos rfl
theorem phi_last : (dat m c).Φ t0_0.succ = phi1 m c := by
  show (if (t0_0.succ : Fin (cfg0.N + 1)).val = 0 then phi0 m c else phi1 m c) = phi1 m c
  exact if_neg (by rw [Fin.val_succ]; omega)

/-- A whole buffer owned at contents is its points. -/
theorem owns_whole (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns
  simp only [Memref.view_whole, View.read_whole, View.set_whole]

/-- The whole-array window's block is its array. -/
theorem iblk0 : iblk m c 0 t0_0 = aOf m c := by
  funext y
  show V m c main_v1 ((win0_0.blk t0_0).view.emb y) = V m c main_v1 y
  refine congrArg (V m c main_v1) (funext fun a => Fin.ext ?_)
  exact Pipeline.Window.rect_emb_val_of_index_zero win0_0 t0_0 a rfl y
theorem iblk1 : iblk m c 1 t0_0 = xOf m c := by
  funext y
  show V m c main_arg0 ((win0_1.blk t0_0).view.emb y) = V m c main_arg0 y
  refine congrArg (V m c main_arg0) (funext fun a => Fin.ext ?_)
  exact Pipeline.Window.rect_emb_val_of_index_zero win0_1 t0_0 a rfl y

theorem before0 (d) : (dat m c).before 0 t0_0 d = aOf m c := by
  unfold Dat.before
  rw [if_pos (fetch0_0 t0_0)]
  exact iblk0 m c
theorem before1 (d) : (dat m c).before 1 t0_0 d = xOf m c := by
  unfold Dat.before
  rw [if_pos (fetch0_1 t0_0)]
  exact iblk1 m c

/-! ## The body's obligation -/

set_option maxRecDepth 20000 in
theorem body_obligation : BodyObligation (dat m c) (defs₀ (F := F)) 𝒱₀ () Set.univ := fun t => by
  obtain rfl := fin_N0 t
  rw [bigSep_W0, bigSep_W0]
  show iprop((dat m c).Φ t0_0.castSucc ∗ (dat m c).owesAt () t0_0.castSucc
        ∗ (∃ d, owns (c : Thread nD τ) aM fullShare ((dat m c).before 0 t0_0 d)) ∗ (∃ d, owns (c : Thread nD τ) xM fullShare ((dat m c).before 1 t0_0 d))
        ∗ (∃ d, owns (c : Thread nD τ) oM fullShare ((dat m c).before 2 t0_0 d)))
      ⊢ wp frame (wpE (defs₀ (F := F)) 𝒱₀ (c : Thread nD τ) none) Set.univ (bodyAt0 t0_0) fun _ =>
          iprop((dat m c).Φ t0_0.succ ∗ (dat m c).owesAt () t0_0.succ
            ∗ owns (c : Thread nD τ) aM fullShare (iblk m c 0 t0_0) ∗ owns (c : Thread nD τ) xM fullShare (iblk m c 1 t0_0)
            ∗ owns (c : Thread nD τ) oM fullShare (outOf m c))
  rw [iblk0, iblk1, phi_first, phi_last]
  simp only [before0, before1, owns_whole]
  unfold phi0 Xk
  iintro ⟨⟨⟨%K, HI, HL, Hb, Hk, Hr⟩, Hw, Hs, Hp⟩, HO, ⟨%d0, %f0, %h0, Ha⟩, ⟨%d1, %f1, %h1, Hx⟩, ⟨%d2, %f2, %h2, Ho⟩⟩
  subst h0; subst h1
  ihave HO := (owesAt_elim (dat m c) _ (debt c 9) (owed_first m c)) $$ HO
  iapply (body_run m K c) $$ [HI HL Hb Hk Hr Hw Hs HO Ha Hx Ho]
  · unfold bodyPre
    isplitl [HI]; · iexact HI
    isplitl [HL]; · iexact HL
    isplitl [HO]; · iexact HO
    isplitl [Hb]; · unfold barKit; iexact Hb
    isplitl [Hk]; · iexact Hk
    isplitl [Hr]; · unfold rows; iexact Hr
    isplitl [Ha Hx Ho Hw]
    · unfold weights
      icases Hw with ⟨Hw1, Hw2⟩
      isplitl [Ha]; · iexact Ha
      isplitl [Hx]; · iexact Hx
      isplitl [Hw1]; · iexact Hw1
      isplitl [Hw2]; · iexact Hw2
      iexists f2; iexact Ho
    unfold scratch; iexact Hs
  unfold bodyPost phi1 Yk
  iintro ⟨⟨%W', HO⟩, Hb, Hi, Hr, ⟨Ha, Hx, Hw1, Hw2, Ho⟩, Hs⟩
  isplitl [Hb Hi Hr Hw1 Hw2 Hs Hp]
  · isplitl [Hb]; · iexact Hb
    isplitl [Hi Hr]
    · isplitl [Hi]; · iexact Hi
      unfold rows; iexact Hr
    isplitl [Hw1 Hw2]
    · unfold weights
      isplitl [Hw1]; · iexact Hw1
      iexact Hw2
    isplitl [Hs]; · unfold scratch; iexact Hs
    iexact Hp
  isplitl [HO]; · iapply (owesAt_intro (dat m c) t0_0.succ (debt c 0) (owed_last m c) W' rfl); iexact HO
  isplitl [Ha]; · iexists _; isplitr; · ipureintro; rfl
                  iexact Ha
  isplitl [Hx]; · iexists _; isplitr; · ipureintro; rfl
                  iexact Hx
  iexists _; isplitr; · ipureintro; rfl
  iexact Ho

/-! ## The region's record -/

/-- The memory as the region finds it. -/
def W₁ : Valuation τ sig (Elt F) := StableHlo.after hostOps0 fun b => m (c, b)
/-- And as it leaves it: the output in place. -/
def W₂ : Valuation τ sig (Elt F) := Function.update (W₁ m c) (Proc.devRef .tc main_v2) (outOf m c)

theorem W₂_out : W₂ m c (Proc.devRef .tc main_v2) = outOf m c := Function.update_self ..
theorem W₂_ne (b : DevRef τ sig) (h : b ≠ Proc.devRef .tc main_v2) : W₂ m c b = W₁ m c b := Function.update_of_ne h ..

/-- The buffers no window stages; and those of them the body reads itself. -/
def restBufs : Finset (DevRef τ sig) := {Proc.devRef .tc main_arg1, Proc.devRef .tc main_arg2, Proc.devRef .tc main_arg3}
def bodyBufs : Finset (DevRef τ sig) := {Proc.devRef .tc main_arg2, Proc.devRef .tc main_arg3}

theorem body_sub : bodyBufs ⊆ restBufs := by decide

theorem bodyBufs_eq (W : Valuation τ sig (Elt F)) : (StableHlo.held (c : Thread nD τ) bodyBufs W : sProp 𝕄)
    = iprop(held w1M c (W (Proc.devRef .tc main_arg2)) ∗ held w2M c (W (Proc.devRef .tc main_arg3))) := by
  unfold StableHlo.held
  rw [bigSep_eq_bigSepL_of_eq [Proc.devRef .tc main_arg2, Proc.devRef .tc main_arg3] (by decide) (by decide)]
  rfl

theorem scopedRest_eq : (Pipeline.scopedRest (Ix := Unit) (Name := ℕ) (U := UU) (Lvl := ℕ) (Val := Elt F) (Pipeline.pin (pcfgs (F := F)) adm 0).spec c : sProp 𝕄) = scratch c :=
  scopedRest0_eq c

theorem hin : iprop(Pipeline.scopedRest (Pipeline.pin (pcfgs (F := F)) adm 0).spec c ∗ (∃ r, prngReg c r) ∗ StableHlo.held (c : Thread nD τ) bodyBufs (W₁ m c) ∗ Xk m c)
    ⊢ ((pdats m 0 c).Φ 0 : sProp 𝕄) := by
  rw [show (pdats m 0 c).Φ 0 = phi0 m c from phi_first m c, scopedRest_eq, bodyBufs_eq]
  unfold phi0 weights
  iintro ⟨Hs, Hp, ⟨H1, H2⟩, HX⟩
  isplitl [HX]; · iexact HX
  isplitl [H1 H2]
  · isplitl [H1]; · iexact H1
    iexact H2
  isplitl [Hs]; · iexact Hs
  iexact Hp

theorem hout : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r) ∗ StableHlo.held (c : Thread nD τ) bodyBufs (W₂ m c) ∗ Pipeline.ownSems0 osem c ∗ Yk c) := by
  rw [show (pdats m 0 c).Φ (Fin.last _) = phi1 m c from phi_last m c, scopedRest_eq, bodyBufs_eq,
    W₂_ne m c _ (by decide), W₂_ne m c _ (by decide)]
  unfold phi1 weights
  iintro ⟨Hy, Ho, ⟨H1, H2⟩, Hs, Hp⟩
  isplitl [Hs]; · iexact Hs
  isplitl [Hp]; · iexact Hp
  isplitl [H1 H2]
  · isplitl [H1]; · iexact H1
    iexact H2
  isplitl [Ho]; · iapply (own_out c); iexact Ho
  iexact Hy

theorem above_debt9 : Above 0 (debt c 9) :=
  above_add _ ((above_debt8 c 8 (le_refl _)).mono (by decide)) (above_tally 0 (peer c) (.reg barS) _ (Nat.zero_lt_one))

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem out_final : (dat m c).arrAt 2 cfg0.N = outOf m c := by
  refine (dat m c).arrAt_eq_of_after_last 2 t0_0 (by decide +kernel) _ fun j => ?_
  rfl

theorem hW' (w : Fin 3) : (dat m c).arrAt w cfg0.N = W₂ m c (Proc.devRef .tc (Pipeline.arrRef spec0 w)) := by
  match w with
  | 0 => exact ((dat m c).arrAt_in 0 rfl _).trans (W₂_ne m c (Proc.devRef .tc main_v1) (by decide)).symm
  | 1 => exact ((dat m c).arrAt_in 1 rfl _).trans (W₂_ne m c (Proc.devRef .tc main_arg0) (by decide)).symm
  | 2 => exact (out_final m c).trans (W₂_out m c).symm

/-- The staging cells are at level 0. -/
theorem staging_low : ∀ (w : Fin 3) (s : Fin (spec0 w).nbuf), (if fam ((spec0 w).sem s) = 2 then 2 else if fam ((spec0 w).sem s) = 4 then 3 else 0) ≤ 0 := by
  decide

set_option backward.isDefEq.respectTransparency.types false in
/-- The region. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    bodyBufs restBufs body_sub kitP rfl (fun c => (body_obligation m c).loose)
    (fun _ => 0) (fun c => debt c 9) (fun c => (owed_first m c).trans (zero_add _).symm) (fun c => owed_last m c) (fun _ => rfl) (fun c w => (dat m c).share_full (fun _ => rfl) w)
    (W₁ m) (W₂ m) (fun c b hb => W₂_ne m c b (by
      have : ∀ b ∈ restBufs \ bodyBufs, b ≠ Proc.devRef .tc main_v2 := by decide
      exact this b hb))
    (Tk m) Yk (Xk m) Yk (hopen m) (hin m) (hout m)
    (fun c => by iintro H; imodintro; iexact H)
    (fun _ => 0)
    ⟨fun c w s => by rw [L_tc]; exact Finset.mem_singleton_self _,
      fun _ w s => staging_low w s,
      fun c t g i h => by
        have e : (pdats (F := F) m 0 c).owed t = if t.val = 0 then debt c 9 else 0 := rfl
        rw [e] at h
        split at h
        · exact above_debt9 c g i h
        · exact absurd h (Nat.lt_irrefl 0)⟩
    (fun _ => iprop(emp))
    (fun c w => by match w with | 0 => rfl | 1 => rfl | 2 => rfl)
    (fun c w => hW' m c w)

end Cert.KernelIdeal.Moe

end
-- ==== Proof.KernelIdeal.Run.lean ====
/- The kernel's run: the exchange's cells made at the launch, their tokens dealt to the device that pays each, the credit
   of what each device will be paid, and @main's two segments. -/
module

public import proofs.«01_k».proof.Proof.KernelIdeal.Region
public import Idealize.ShloMosaic.Lib.Quiescent

@[expose] public section

noncomputable section

namespace Cert.KernelIdeal.Moe

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The exchange's cells -/

/-- The exchange's DMA semaphores: slab, then family. -/
def exS (p : Fin 4 × Fin 4) : DmaSem sig := semAt p.1 p.2.castSucc
theorem exS_inj : Function.Injective exS := by decide
theorem talks_all : ∀ s : SemLoc sig, talks s = true → s = .reg barS ∨ ∃ p, s = .dma (exS p) := by decide

def barEmb : Dev nD ↪ GSem nD τ sig := ⟨barCell, fun _ _ h => congrArg (fun g : GSem nD τ sig => g.1.1) h⟩
def exEmb : Dev nD × (Fin 4 × Fin 4) ↪ GSem nD τ sig :=
  ⟨fun q => cellOn q.1 (exS q.2), fun q q' h =>
    Prod.ext (congrArg (fun g : GSem nD τ sig => g.1.1) h) (exS_inj (SemLoc.dma.inj (congrArg Prod.snd h)))⟩

/-- The barrier cells, open from the launch; the others, opened as the region is entered. -/
abbrev barCells : Finset (GSem nD τ sig) := Finset.univ.map barEmb
abbrev exCells : Finset (GSem nD τ sig) := Finset.univ.map exEmb
def tokEmb : GSem nD τ sig ↪ GSem nD τ sig × ℕ × Unit := ⟨fun g => (g, 0, ()), fun _ _ h => congrArg Prod.fst h⟩
/-- One duty per cell. -/
abbrev allToks : Finset (GSem nD τ sig × ℕ × Unit) := (barCells ∪ exCells).map tokEmb

theorem cells_disjoint : Disjoint barCells exCells := by
  rw [Finset.disjoint_left]
  intro g h h'
  obtain ⟨d, -, rfl⟩ := Finset.mem_map.mp h
  obtain ⟨q, -, e⟩ := Finset.mem_map.mp h'
  exact nomatch (congrArg Prod.snd e : SemLoc.dma (exS q.2) = SemLoc.reg barS)

theorem cell_mem (s : SemLoc sig) (h : talks s = true) : ((c : Thread nD τ), s) ∈ (barCells ∪ exCells : Finset (GSem nD τ sig)) := by
  rcases talks_all s h with rfl | ⟨p, rfl⟩
  · exact Finset.mem_union_left _ (Finset.mem_map_of_mem barEmb (Finset.mem_univ c))
  · exact Finset.mem_union_right _ (Finset.mem_map_of_mem exEmb (Finset.mem_univ (c, p)))

theorem invs_intro (κ : GSem nD τ sig → ℕ) :
    (bigSep (barCells ∪ exCells) fun g => (cellInv (ER (F := F)) (rd m) (κ g) g : sProp 𝕄)) ⊢ invs m κ := by
  unfold invs
  exact BI.BIClass.forall_intro fun d => BI.BIClass.forall_intro fun s => bigSep_elim (cell_mem d s.1 s.2)

/-- The cells of one device, slab by slab. -/
theorem exCells_chain (Φ : GSem nD τ sig → sProp 𝕄) : bigSep exCells Φ
    = bigSep Finset.univ fun c : Dev nD => bigSep Finset.univ fun i : Fin 4 =>
        iprop(Φ (cellOn c (fsS i)) ∗ Φ (cellOn c (frS i)) ∗ Φ (cellOn c (bsS i)) ∗ Φ (cellOn c (brS i))) := by
  rw [bigSep_map, bigSep_univ_prod]
  refine bigSep_congr fun c _ => ?_
  rw [bigSep_univ_prod]
  exact bigSep_congr fun i _ => fin4_chain fun f => Φ (exEmb (c, (i, f)))

/-- The device that pays the cell of family `f` on device `c`. -/
def payer (f : Fin 4) (c : Dev nD) : Dev nD := if f = 1 ∨ f = 3 then peer c else c
theorem payer_payer (f : Fin 4) (c : Dev nD) : payer f (payer f c) = c := by
  unfold payer
  split
  · exact peer_peer c
  · rfl
/-- Device and cell to payer and cell, its own inverse. -/
def deal : Dev nD × (Fin 4 × Fin 4) ≃ Dev nD × (Fin 4 × Fin 4) where
  toFun q := (payer q.2.2 q.1, q.2)
  invFun q := (payer q.2.2 q.1, q.2)
  left_inv q := by show (payer q.2.2 (payer q.2.2 q.1), q.2) = q; rw [payer_payer]
  right_inv q := by show (payer q.2.2 (payer q.2.2 q.1), q.2) = q; rw [payer_payer]

/-- The same, each cell's share handed to its payer. -/
theorem exCells_dealt (Φ : GSem nD τ sig → sProp 𝕄) : bigSep exCells Φ
    = bigSep Finset.univ fun c : Dev nD => bigSep Finset.univ fun i : Fin 4 =>
        iprop(Φ (cellOn c (fsS i)) ∗ Φ (cellOn (peer c) (frS i)) ∗ Φ (cellOn c (bsS i)) ∗ Φ (cellOn (peer c) (brS i))) := by
  rw [bigSep_map, bigSep_univ_equiv deal, bigSep_univ_prod]
  refine bigSep_congr fun c _ => ?_
  rw [bigSep_univ_prod]
  exact bigSep_congr fun i _ => fin4_chain fun f => Φ (exEmb (deal (c, (i, f))))

theorem barCells_dealt (Φ : GSem nD τ sig → sProp 𝕄) : bigSep barCells Φ = bigSep Finset.univ fun c : Dev nD => Φ (barCell (peer c)) := by
  rw [bigSep_map, bigSep_univ_equiv swap]; rfl

/-! ## The credit of what a device will be paid -/

/-- The semaphore of the `k`-th payment. -/
def dueSem : ℕ → SemLoc sig
  | 0 => .dma (brS 3)
  | 1 => .dma (brS 2)
  | 2 => .dma (brS 1)
  | 3 => .dma (brS 0)
  | 4 => .dma (frS 3)
  | 5 => .dma (frS 2)
  | 6 => .dma (frS 1)
  | 7 => .dma (frS 0)
  | _ => .reg barS
theorem dueCell_eq (k : ℕ) : dueCell c k = ((peer c : Thread nD τ), dueSem k) := by
  match k with
  | 0 => rfl
  | 1 => rfl
  | 2 => rfl
  | 3 => rfl
  | 4 => rfl
  | 5 => rfl
  | 6 => rfl
  | 7 => rfl
  | _ + 8 => rfl
theorem dueSem_inj : ∀ j k : Fin 9, dueSem j.val = dueSem k.val → j = k := by decide
def dueEmb : Fin 9 ↪ SemLoc sig := ⟨fun j => dueSem j.val, dueSem_inj⟩

theorem debt_apply (d : Dev nD) (s : SemLoc sig) (n : ℕ) :
    debt d n ((c : Thread nD τ), s) () = if d = peer c then ∑ k ∈ Finset.range n, (if dueSem k = s then unitsOn s else 0) else 0 := by
  induction n with
  | zero => rw [Finset.range_zero, Finset.sum_empty, ite_self]; rfl
  | succ n ih =>
    show debt d n ((c : Thread nD τ), s) () + tallyAt (dueCell d n) () (unitsOn (dueCell d n).2) ((c : Thread nD τ), s) () = _
    rw [ih, tallyAt_apply, dueCell_eq, Finset.sum_range_succ]
    by_cases h : d = peer c
    · rw [if_pos h, if_pos h, h, peer_peer]
      by_cases hs : dueSem n = s
      · rw [if_pos hs, if_pos ⟨by rw [hs], rfl⟩, hs]
      · rw [if_neg hs, if_neg fun e => hs (congrArg Prod.snd e.1).symm]
    · rw [if_neg h, if_neg h, if_neg fun e => h (by
        have e1 : c = peer d := congrArg (fun g : GSem nD τ sig => g.1.1) e.1
        rw [e1, peer_peer])]

theorem debt_due (d : Dev nD) (j : Fin 9) :
    debt d 9 ((c : Thread nD τ), dueSem j.val) () = if d = peer c then unitsOn (dueSem j.val) else 0 := by
  rw [debt_apply, Finset.sum_eq_single j.val, if_pos rfl]
  · intro k hk hne
    exact if_neg fun e => hne (congrArg Fin.val (dueSem_inj ⟨k, Finset.mem_range.mp hk⟩ j e))
  · intro h; exact absurd (Finset.mem_range.mpr j.isLt) h

theorem launch_due (j : Fin 9) :
    tallyOn ((c : Thread nD τ), dueSem j.val) (launchCredit (Pipeline.owing fun d => debt d 9) 0 ((c : Thread nD τ), dueSem j.val))
      = (tallyAt ((c : Thread nD τ), dueSem j.val) () (unitsOn (dueSem j.val)) : CellTallies nD τ sig Unit) := by
  unfold tallyAt
  refine congrArg _ (Finsupp.ext fun u => ?_)
  cases u
  rw [Pipeline.launchCredit_owing, Finsupp.single_eq_same, Finset.sum_congr rfl fun d _ => debt_due c d j,
    Finset.sum_ite_eq' Finset.univ (peer c), if_pos (Finset.mem_univ _)]

/-- The credit of a device's two receive cells of slab `i`. -/
def dues (i : Fin 4) : sProp 𝕄 := iprop(cred (tallyAt (cellOn c (frS i)) () N) ∗ cred (tallyAt (cellOn c (brS i)) () N))

theorem creds : (Pipeline.launchCred (fun d => debt d 9) c : sProp 𝕄)
    ⊢ iprop(cred (tallyAt (barCell c) () 1) ∗ dues c 0 ∗ dues c 1 ∗ dues c 2 ∗ dues c 3) := by
  unfold Pipeline.launchCred
  refine (bigSep_subset (Finset.subset_univ (Finset.univ.map dueEmb))).trans ?_
  rw [bigSep_map]
  refine (Entails.of_eq (bigSep_congr (s := Finset.univ) (Ψ := fun j : Fin 9 => (cred (tallyAt ((c : Thread nD τ), dueSem j.val) () (unitsOn (dueSem j.val))) : sProp 𝕄))
    fun j _ => congrArg cred (launch_due c j))).trans ?_
  rw [bigSep_univ_eq_bigSepL [0, 1, 2, 3, 4, 5, 6, 7, 8] (by decide) (by decide)]
  unfold dues
  show iprop(cred (tallyAt (cellOn c (brS 3)) () N) ∗ cred (tallyAt (cellOn c (brS 2)) () N) ∗ cred (tallyAt (cellOn c (brS 1)) () N)
    ∗ cred (tallyAt (cellOn c (brS 0)) () N) ∗ cred (tallyAt (cellOn c (frS 3)) () N) ∗ cred (tallyAt (cellOn c (frS 2)) () N)
    ∗ cred (tallyAt (cellOn c (frS 1)) () N) ∗ cred (tallyAt (cellOn c (frS 0)) () N) ∗ cred (tallyAt (barCell c) () 1)) ⊢ _
  iintro ⟨H0, H1, H2, H3, H4, H5, H6, H7, H8⟩
  isplitl [H8]; · iexact H8
  isplitl [H7 H3]; · isplitl [H7] <;> iassumption
  isplitl [H6 H2]; · isplitl [H6] <;> iassumption
  isplitl [H5 H1]; · isplitl [H5] <;> iassumption
  isplitl [H4] <;> iassumption

/-! ## The thread states -/

/-- The buffers @main names. -/
def bufs : Finset (DevRef τ sig) := (StableHlo.tcRefs τ sig).filter fun b => ¬ b.isScoped

theorem unscoped_held (W : Valuation τ sig (Elt F)) : (unscopedBufs c (fun b => W b) : sProp 𝕄) = StableHlo.held (c : Thread nD τ) bufs W := by
  unfold unscopedBufs StableHlo.held bufs StableHlo.tcRefs
  rw [Finset.filter_map, BI.bigSep_map]
  rfl
theorem unscoped_sems : (unscopedSems0 c : sProp 𝕄) = semVal (barCell c) 0 := by
  unfold unscopedSems0
  rw [show (Finset.univ.filter fun s : SemLoc sig => ¬ s.isScoped .tc) = {SemLoc.reg barS} from by decide, BI.bigSep_singleton]
theorem unscoped_only : ∀ s : SemLoc sig, s.isScoped .tc = false → s = .reg barS := by decide

theorem rest_sub : restBufs ⊆ bufs := by decide
theorem bufs_rest : bufs \ restBufs = Pipeline.arrRefs (τ := τ) (pcfgs (F := F) 0).spec :=
  (by decide : bufs \ restBufs = Pipeline.arrRefs (τ := τ) spec0)

theorem bufs_split (W : Valuation τ sig (Elt F)) : (StableHlo.held (c : Thread nD τ) bufs W : sProp 𝕄)
    = iprop(StableHlo.held (c : Thread nD τ) restBufs W ∗ StableHlo.held (c : Thread nD τ) (Pipeline.arrRefs (τ := τ) (pcfgs (F := F) 0).spec) W) := by
  rw [StableHlo.held_sub_split (c : Thread nD τ) rest_sub W, bufs_rest (F := F)]

/-- The memory at the launch. -/
abbrev W₀ : Valuation τ sig (Elt F) := fun b => m (c, b)
/-- What rides beside the buffers up to the region. -/
def R : sProp 𝕄 := iprop(Tk m c ∗ (∃ r, prngReg c r) ∗ ∃ W, owes (c : Thread nD τ) (debt c 9) W)

theorem reg_pre : iprop(StableHlo.held (c : Thread nD τ) bufs (W₁ m c) ∗ R m c) ⊢ ((reg m).pre c : sProp 𝕄) := by
  show _ ⊢ iprop(StableHlo.held (c : Thread nD τ) (Pipeline.arrRefs (τ := τ) (pcfgs (F := F) 0).spec) (W₁ m c) ∗ (∃ r, prngReg c r)
    ∗ (StableHlo.held (c : Thread nD τ) restBufs (W₁ m c) ∗ emp) ∗ Tk m c ∗ ∃ Wd, owes (c : Thread nD τ) (0 + debt c 9) Wd)
  rw [bufs_split, zero_add]
  unfold R
  iintro ⟨⟨Hr, Ha⟩, HT, Hp, HO⟩
  isplitl [Ha]; · iexact Ha
  isplitl [Hp]; · iexact Hp
  isplitl [Hr]
  · isplitl [Hr]; · iexact Hr
    iempintro
  isplitl [HT]; · iexact HT
  iexact HO

theorem reg_post : ((reg m).post c : sProp 𝕄)
    ⊢ iprop((StableHlo.held (c : Thread nD τ) bufs (W₂ m c) ∗ semVal (barCell c) 0) ∗ ∃ W, owes (c : Thread nD τ) (0 : CellTallies nD τ sig Unit) W) := by
  show iprop(StableHlo.held (c : Thread nD τ) (Pipeline.arrRefs (τ := τ) (pcfgs (F := F) 0).spec) (W₂ m c) ∗ (∃ r, prngReg c r)
    ∗ (StableHlo.held (c : Thread nD τ) restBufs (W₂ m c) ∗ emp) ∗ Yk c ∗ ∃ Wd, owes (c : Thread nD τ) (0 : CellTallies nD τ sig Unit) Wd) ⊢ _
  rw [bufs_split]
  unfold Yk
  iintro ⟨Ha, -, ⟨Hr, -⟩, Hb, HO⟩
  isplitr [HO]
  · isplitl [Ha Hr]; · isplitl [Hr] <;> iassumption
    iexact Hb
  iexact HO

theorem ops_sub : ∀ op ∈ (hostOps0 : List (HloOp τ sig (Elt F))), op.bufs ⊆ bufs := fun op h => by
  simp only [List.mem_singleton] at h
  subst h
  show ({Proc.devRef .tc main_arg1, Proc.devRef .tc main_v1} : Finset (DevRef τ sig)) ⊆ bufs
  decide
theorem ops_fresh : ∀ op ∈ (hostOps0 : List (HloOp τ sig (Elt F))), op.fresh = ∅ := List.forall_iff_forall_mem.mp hostOps0_fresh

/-- The reshape of the assignment. -/
def seg : Pipeline.HostSeg (Name := ℕ) (U := UU) (pcfgs (F := F)) defs₀ 𝒱₀ L lv :=
  Pipeline.HostSeg.ofOps _ _ _ _ _ bufs hostOps0 ops_sub ops_fresh (W₀ m) (R m)

/-- @main. -/
def segs : List (Pipeline.Seg (pcfgs (F := F)) adm (pdats m) () defs₀ 𝒱₀ L lv) := [.host (seg m), .region (reg m)]

/-! ## The launch -/

theorem sep_over {Φ Ψ : Dev nD → sProp 𝕄} : iprop(bigSep Finset.univ Φ ∗ bigSep Finset.univ Ψ) ⊢ bigSep Finset.univ fun c => iprop(Φ c ∗ Ψ c) :=
  Entails.of_eq (bigSep_sep' ..).symm
theorem over_sep {Φ Ψ : Dev nD → sProp 𝕄} : (bigSep Finset.univ fun c => iprop(Φ c ∗ Ψ c)) ⊢ iprop(bigSep Finset.univ Φ ∗ bigSep Finset.univ Ψ) :=
  Entails.of_eq (bigSep_sep' ..)

/-- The launch's ghost state. -/
def u₀ : UU :=
  (initOf (Pipeline.cells (Pipeline.pin (pcfgs (F := F)) adm) cellOf_inj) (Pipeline.launchToks (Pipeline.pin (pcfgs (F := F)) adm) cellOf_inj),
    (launchOf barCells exCells allToks, 1))

theorem ghost_split (a : UR sig nD τ) (b : UR sig nD τ) :
    (ownU ((a, (b, 1)) : UU) : sProp 𝕄) ⊢ iprop(BI.own (EP (F := F) a) ∗ BI.own (ER (F := F) b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The exchange's ghost state, all of it kept with device 0 until the cells are made. -/
def G (c : Dev nD) : sProp 𝕄 := if c = 0 then BI.own (ER (F := F) (launchOf barCells exCells allToks)) else iprop(emp)
theorem bigSep_G : bigSep Finset.univ (G (F := F)) = BI.own (ER (F := F) (launchOf barCells exCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What every device may consult. -/
def records (κ : GSem nD τ sig → ℕ) : sProp 𝕄 := iprop(invs m κ ∗ bigSep barCells fun g => reached (ER (F := F)) g 0)
instance records_persistent (κ : GSem nD τ sig → ℕ) : BI.Persistent (records m κ) := by unfold records; infer_instance

theorem reached_bar : (bigSep barCells fun g => (reached (ER (F := F)) g 0 : sProp 𝕄)) ⊢ reached (ER (F := F)) (barCell c) 0 :=
  bigSep_elim (Finset.mem_map_of_mem barEmb (Finset.mem_univ c))

/-- Slab `i`'s rights and tokens on device `c`. -/
def opens (i : Fin 4) : sProp 𝕄 :=
  iprop(openTok (ER (F := F)) (cellOn c (fsS i)) ∗ openTok (ER (F := F)) (cellOn c (frS i)) ∗ openTok (ER (F := F)) (cellOn c (bsS i)) ∗ openTok (ER (F := F)) (cellOn c (brS i)))
def pays (i : Fin 4) : sProp 𝕄 :=
  iprop(dutyTok (ER (F := F)) (cellOn c (fsS i)) 0 () ∗ dutyTok (ER (F := F)) (cellOn (peer c) (frS i)) 0 ()
      ∗ dutyTok (ER (F := F)) (cellOn c (bsS i)) 0 () ∗ dutyTok (ER (F := F)) (cellOn (peer c) (brS i)) 0 ())

/-- What the cells' making gives device `c`. -/
def made : sProp 𝕄 :=
  iprop(atPos (ER (F := F)) (barCell c) 0 ∅ 0 ∗ (bigSep Finset.univ fun i : Fin 4 => opens c i)
    ∗ dutyTok (ER (F := F)) (barCell (peer c)) 0 () ∗ (bigSep Finset.univ fun i : Fin 4 => pays c i))
/-- The rest of what it holds at the launch. -/
def rest : sProp 𝕄 :=
  iprop(StableHlo.held (c : Thread nD τ) bufs (W₀ m c) ∗ (cred (tallyAt (barCell c) () 1) ∗ dues c 0 ∗ dues c 1 ∗ dues c 2 ∗ dues c 3)
    ∗ owes (c : Thread nD τ) (debt c 9) ∅ ∗ ∃ r, prngReg c r)

/-- The first thread state. -/
abbrev T₀ : sProp 𝕄 := iprop(StableHlo.held (c : Thread nD τ) bufs (W₀ m c) ∗ R m c)
/-- The last. -/
abbrev Tₙ : sProp 𝕄 := iprop(StableHlo.held (c : Thread nD τ) bufs (W₂ m c) ∗ semVal (barCell c) 0)

theorem T₀_intro (κ : GSem nD τ sig → ℕ) : iprop(records m κ ∗ (made c ∗ rest m c)) ⊢ (T₀ m c : sProp 𝕄) := by
  dsimp only [T₀]
  unfold records made rest R Tk barKit slabLaunch
  rw [fin4_chain, fin4_chain]
  unfold opens pays dues
  iintro ⟨⟨HI, HR⟩, ⟨Ha, ⟨Ho0, Ho1, Ho2, Ho3⟩, Hd, ⟨Hp0, Hp1, Hp2, Hp3⟩⟩, Hh, ⟨Hc, Hc0, Hc1, Hc2, Hc3⟩, HO, Hg⟩
  isplitl [Hh]; · iexact Hh
  isplitr [HO Hg]
  · iexists κ
    isplitl [HI]; · iexact HI
    isplitl [Ha Hd Hc HR]
    · isplitl [Hd]; · iexact Hd
      isplitl [HR]; · iapply (reached_bar (F := F) (peer c)); iexact HR
      isplitl [Ha]; · iexact Ha
      iexact Hc
    isplitl [Ho0 Hp0 Hc0]
    · isplitl [Ho0]; · iexact Ho0
      isplitl [Hp0]; · iexact Hp0
      iexact Hc0
    isplitl [Ho1 Hp1 Hc1]
    · isplitl [Ho1]; · iexact Ho1
      isplitl [Hp1]; · iexact Hp1
      iexact Hc1
    isplitl [Ho2 Hp2 Hc2]
    · isplitl [Ho2]; · iexact Ho2
      isplitl [Hp2]; · iexact Hp2
      iexact Hc2
    isplitl [Ho3]; · iexact Ho3
    isplitl [Hp3]; · iexact Hp3
    iexact Hc3
  isplitl [Hg]; · iexact Hg
  iexists ∅; iexact HO

theorem init_core : iprop(unscopedBufs c (fun b => m ((c : Thread nD τ).loc b)) ∗ unscopedSems0 c
        ∗ owes (c : Thread nD τ) (debt c 9) ∅ ∗ Pipeline.launchCred (fun d => debt d 9) c ∗ prngReg c (ρ c) ∗ G c)
      ⊢ (iprop(rest m c ∗ (semVal (barCell c) 0 ∗ G c)) : sProp 𝕄) := by
  rw [show unscopedBufs c (fun b => m ((c : Thread nD τ).loc b)) = StableHlo.held (c : Thread nD τ) bufs (W₀ m c) from unscoped_held c (W₀ m c),
    unscoped_sems]
  unfold rest
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem init :
    iprop((bigSep Finset.univ fun c : Dev nD => iprop(unscopedBufs c (fun b => m ((c : Thread nD τ).loc b)) ∗ unscopedSems0 c
          ∗ owes (c : Thread nD τ) (debt c 9) ∅ ∗ Pipeline.launchCred (fun d => debt d 9) c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos (ER (F := F)) g 0 ∅ 0 : sProp 𝕄)) ⊢ bigSep Finset.univ (fun c : Dev nD => (atPos (ER (F := F)) (barCell c) 0 ∅ 0 : sProp 𝕄)) :=
    Entails.of_eq (bigSep_map (s := Finset.univ) barEmb (Φ := fun g : GSem nD τ sig => (atPos (ER (F := F)) g 0 ∅ 0 : sProp 𝕄)))
  have hop : bigSep exCells (fun g => (openTok (ER (F := F)) g : sProp 𝕄))
      ⊢ bigSep Finset.univ (fun c : Dev nD => bigSep Finset.univ fun i : Fin 4 => opens (F := F) c i) :=
    Entails.of_eq (exCells_chain fun g => openTok (ER (F := F)) g)
  have htk : bigSep allToks (fun x => (dutyTok (ER (F := F)) x.1 x.2.1 x.2.2 : sProp 𝕄))
      ⊢ iprop((bigSep Finset.univ fun c : Dev nD => dutyTok (ER (F := F)) (barCell (peer c)) 0 ())
        ∗ bigSep Finset.univ fun c : Dev nD => bigSep Finset.univ fun i : Fin 4 => pays (F := F) c i) :=
    Entails.of_eq (by
      rw [bigSep_map, bigSep_union cells_disjoint]
      exact congrArg₂ (fun P Q : sProp 𝕄 => iprop(P ∗ Q)) (barCells_dealt fun g => dutyTok (ER (F := F)) g 0 ()) (exCells_dealt fun g => dutyTok (ER (F := F)) g 0 ()))
  iintro ⟨H, -⟩
  ihave H := (show (bigSep Finset.univ fun c : Dev nD => iprop(unscopedBufs c (fun b => m ((c : Thread nD τ).loc b)) ∗ unscopedSems0 c
          ∗ owes (c : Thread nD τ) (debt c 9) ∅ ∗ Pipeline.launchCred (fun d => debt d 9) c ∗ prngReg c (ρ c) ∗ G c))
      ⊢ (bigSep Finset.univ fun c : Dev nD => iprop(rest m c ∗ (semVal (barCell c) 0 ∗ G c)) : sProp 𝕄) from bigSep_mono fun c _ => init_core m ρ c) $$ H
  ihave H := over_sep $$ H; icases H with ⟨HB, H⟩
  ihave H := over_sep $$ H; icases H with ⟨Hv, HG⟩
  ihave Hu := (show bigSep Finset.univ (G (F := F)) ⊢ BI.own (ER (F := F) (launchOf barCells exCells allToks)) from Entails.of_eq bigSep_G) $$ HG
  imod (Rounds.fund_launch (ER (F := F)) (rd m) cells_disjoint (fun g _ h => h) allToks) $$ [Hv Hu] with ⟨%κ, -, #Hinv, #Hr, Hat, Hop, Htok⟩
  · isplitl [Hv]
    · iapply hv $$ Hv
    · iexact Hu
  ihave Hat := hat $$ Hat
  ihave Hop := hop $$ Hop
  ihave Htok := htk $$ Htok
  icases Htok with ⟨Ht1, Ht2⟩
  imodintro
  iapply (bigSep_with_persistent (R := records m κ) (Φ := fun c => iprop(made c ∗ rest m c)) fun c _ => T₀_intro m c κ)
  isplitr
  · unfold records
    isplitr; · iapply (invs_intro m κ); iexact Hinv
    iexact Hr
  iapply sep_over
  isplitr [HB]
  · unfold made
    iapply sep_over; isplitl [Hat]; · iexact Hat
    iapply sep_over; isplitl [Hop]; · iexact Hop
    iapply sep_over; isplitl [Ht1] <;> iassumption
  · iexact HB

/-! ## The run -/

/-- A final state has what the held buffers hold. -/
theorem held_read (s : Phys nD τ sig (Elt F)) (W : Valuation τ sig (Elt F)) :
    iprop(StableHlo.held (c : Thread nD τ) bufs W ∗ SI s) ⊢ (iprop(⌜∀ b ∈ bufs, s.mem.mem (c, b) = W b⌝ ∗ SI s) : sProp 𝕄) :=
  pointsTo_read_all bufs (fun b => ((c, b) : Loc nD τ sig)) W s

set_option backward.isDefEq.respectTransparency.types false in
/-- From any memory with zero counters every weakly fair execution of @main on the eight devices terminates, and every
    final state has each device's output at `outOf`, its arguments as they were and every semaphore counter at zero. -/
theorem run_main : θ_run defs (onTc (τ := τ) (main (F := F))) ⟨m, fun _ => 0, ρ⟩
    (fun r => (∀ c : Dev nD, r.2.mem ((c : Thread nD τ).loc main_v2) = outOf m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg m) (reg m) rfl c]; exact .rfl)
    (by simp only [segs, Pipeline.Seg.pipes_host, Pipeline.Seg.pipes_region, Pipeline.Seg.pipes_nil]; decide)
    (O₀ := fun d => debt d 9) (hL := L_of_ne) (G := G) (u₀ := u₀)
    (hu₀ := by
      unfold u₀
      iintro Hu
      ihave H := (ghost_split (F := F) _ _) $$ Hu
      icases H with ⟨HP, HX⟩
      imodintro
      isplitl [HP]; · iexact HP
      rw [bigSep_G]; iexact HX)
    (T₀ := T₀ m) (Tₙ := Tₙ m)
    (hch := ⟨fun c => .rfl, fun c => reg_pre m c, fun c => reg_post m c⟩)
    (hinit := init m ρ)
    (QY := fun c s => (∀ b ∈ bufs, s.mem (c, b) = W₂ m c b) ∧ s.sem (barCell c) = 0)
    (hfin := fun c s' => by
      dsimp only [Tₙ]
      iintro ⟨⟨Hh, Hb⟩, HSI⟩
      icombine HSI Hb gives %hb
      ihave H := (held_read c s' (W₂ m c)) $$ [Hh HSI]
      · isplitl [Hh] <;> iassumption
      icases H with ⟨%hx, HSI⟩
      imodintro
      isplitr
      · ipureintro
        exact ⟨hx, by simpa using hb⟩
      iexact HSI)
    (hQ := fun s h hs => ⟨fun c => by
        have hm := (h c).1
        exact ⟨(hm (Proc.devRef .tc main_v2) (by decide)).trans (W₂_out m c),
          ((hm (Proc.devRef .tc main_arg0) (by decide)).trans (W₂_ne m c _ (by decide))).trans (V_main_arg0 m c),
          ((hm (Proc.devRef .tc main_arg1) (by decide)).trans (W₂_ne m c _ (by decide))).trans (V_main_arg1 m c),
          ((hm (Proc.devRef .tc main_arg2) (by decide)).trans (W₂_ne m c _ (by decide))).trans (V_main_arg2 m c),
          ((hm (Proc.devRef .tc main_arg3) (by decide)).trans (W₂_ne m c _ (by decide))).trans (V_main_arg3 m c)⟩,
      sem_eq_zero hs fun c s hs => by
        obtain rfl := unscoped_only s hs
        exact (h c).2⟩)

end Cert.KernelIdeal.Moe

end
-- ==== Proof.Value.Rank.lean ====
/- The rank of a token among those of its expert: the kernel's prefix sum by doubling counts, per expert and token, the
   tokens up to this one that name the expert, and the sum over the experts picks the token's own. -/
module

public import proofs.«01_k».proof.Proof.KernelIdeal.Vals
public import Idealize.ShloMosaic.Lib.PointwiseCore
public import Idealize.ShloMosaic.Lib.Pointwise.IndexVar
public import Idealize.ShloMosaic.Lib.Pointwise

@[expose] public section

set_option maxRecDepth 16384

noncomputable section

namespace Cert.KernelIdeal.Moe

open Idealize.ShloMosaic
open Cert.KernelIdeal.Gen

variable {F : FTy → Type} [FloatOps F]

/-- Token `q` names expert `e`. -/
def Names (a : Fin 2048 → BitVec 32) (e q : ℕ) : Prop := ∃ h : q < 2048, a ⟨q, h⟩ = BitVec.ofNat 32 e

instance (a : Fin 2048 → BitVec 32) (e : ℕ) : DecidablePred (Names a e) := fun _ => inferInstanceAs (Decidable (∃ _, _))

/-- How many tokens before `q` name expert `e`. -/
def cnt (a : Fin 2048 → BitVec 32) (e q : ℕ) : ℕ := Nat.count (Names a e) q

/-- How many of the last `K` tokens up to `t` name expert `e`. -/
def win (a : Fin 2048 → BitVec 32) (e K t : ℕ) : ℕ := cnt a e (t + 1) - cnt a e (t + 1 - K)

theorem win_one (a : Fin 2048 → BitVec 32) (e : ℕ) (t : Fin 2048) :
    win a e 1 t = if a t = BitVec.ofNat 32 e then 1 else 0 := by
  unfold win cnt
  rw [Nat.add_sub_cancel, Nat.count_succ, Nat.add_sub_cancel_left]
  refine if_congr ⟨fun ⟨_, h⟩ => h, fun h => ⟨t.isLt, h⟩⟩ rfl rfl

theorem win_double (a : Fin 2048 → BitVec 32) (e K t : ℕ) :
    win a e (2 * K) t = win a e K t + if t < K then 0 else win a e K (t - K) := by
  unfold win cnt
  have mono := @Nat.count_monotone (Names a e) _
  split
  · rw [show t + 1 - 2 * K = 0 by omega, show t + 1 - K = 0 by omega]
    rfl
  · rw [show t - K + 1 = t + 1 - K by omega, show t + 1 - K - K = t + 1 - 2 * K by omega]
    have h1 := mono (show t + 1 - K ≤ t + 1 by omega)
    have h2 := mono (show t + 1 - 2 * K ≤ t + 1 - K by omega)
    omega

theorem win_full (a : Fin 2048 → BitVec 32) (e : ℕ) (t : Fin 2048) : win a e 2048 t = cnt a e (t + 1) := by
  unfold win
  rw [show t.val + 1 - 2048 = 0 by have := t.isLt; omega]
  simp [cnt]

/-- One step of the doubling: adding the array moved `k` columns to the right turns windows of `k` into windows of `2 k`. -/
theorem double (a : Fin 2048 → BitVec 32) (k n K : ℕ) (hk : k = K) (c : IVec S8x2048 32)
    (hs : S8x2048.Slices ![0, 0] (⟨2, ![8, n]⟩ : Shape)) (hc : Shape.Concatenates [⟨2, ![8, k]⟩, ⟨2, ![8, n]⟩] S8x2048 1)
    (h : ∀ e : Fin 8, ∀ t : Fin 2048, c (ix2 e t) = BitVec.ofNat 32 (win a e K t)) :
    ∀ e : Fin 8, ∀ t : Fin 2048,
      addi c (concatenate S8x2048 1 [⟨⟨2, ![8, k]⟩, broadcast ⟨2, ![8, k]⟩ 0#32⟩, ⟨⟨2, ![8, n]⟩, extractStridedSlice ⟨2, ![8, n]⟩ ![0, 0] c hs⟩] hc)
        (ix2 e t) = BitVec.ofNat 32 (win a e (2 * K) t) := by
  subst hk
  intro e t
  rw [win_double]
  pointwise
  rw [h e t, BitVec.ofNat_add]
  split
  · rfl
  · rw [h e ⟨t.val - k, _⟩]; rfl

/-- The assignment row by token. -/
def asg (v : Vec F S1x2048 .i32) : Fin 2048 → BitVec 32 := fun t => v (ix2 0 t)

theorem onehot_at (v : Vec F S1x2048 .i32) (e : Fin 8) (t : Fin 2048) :
    k0_pay2 v (ix2 e t) = BitVec.ofNat 32 (win (asg v) e 1 t) := by
  rw [win_one]
  pointwise [k0_pay2, k0_pay1]
  show BitVec.setWidth 32 (IntOp.cmpi .eq (asg v t) (BitVec.ofNat 32 e)) = _
  by_cases h : asg v t = BitVec.ofNat 32 e
  · rw [if_pos h, h]; simp [IntOp.cmpi]
  · rw [if_neg h]; simp [IntOp.cmpi, beq_eq_false_iff_ne.mpr h]

/-- The prefix sums, all steps but the last two. -/
theorem prefix_at (v : Vec F S1x2048 .i32) (e : Fin 8) (t : Fin 2048) :
    k0_pay3 v (ix2 e t) = BitVec.ofNat 32 (win (asg v) e 512 t) :=
  double (asg v) 256 1792 256 rfl _ _ _ (double _ 128 1920 128 rfl _ _ _ (double _ 64 1984 64 rfl _ _ _
    (double _ 32 2016 32 rfl _ _ _ (double _ 16 2032 16 rfl _ _ _ (double _ 8 2040 8 rfl _ _ _ (double _ 4 2044 4 rfl _ _ _
      (double _ 2 2046 2 rfl _ _ _ (double _ 1 2047 1 rfl _ _ _ (onehot_at v))))))))) e t

/-- A sum of words with one that may differ from zero. -/
theorem fold_single (f : Fin 8 → BitVec 32) (e : Fin 8) (h : ∀ k, k ≠ e → f k = 0#32) :
    Finset.univ.fold IntOp.addi 0#32 f = f e := by
  have rest : ∀ s : Finset (Fin 8), e ∉ s → s.fold IntOp.addi 0#32 f = 0#32 := fun s => by
    induction s using Finset.induction_on with
    | empty => exact fun _ => rfl
    | insert k s hk ih =>
      intro he
      rw [Finset.fold_insert hk, ih (fun hs => he (Finset.mem_insert_of_mem hs)), h k (fun hke => he (hke ▸ Finset.mem_insert_self ..))]
      rfl
  rw [← Finset.insert_erase (Finset.mem_univ e), Finset.fold_insert (by simp), rest _ (by simp)]
  exact BitVec.add_zero _

/-- A token's rank is how many tokens before it name its expert. -/
theorem rank_at (v : Vec F S1x2048 .i32) (t : Fin 2048) (e : Fin 8) (he : asg v t = BitVec.ofNat 32 e) :
    k0_pay5 (k0_pay2 v) (k0_pay3 v) (k0_pay4 v) (ix1 t) = BitVec.ofNat 32 (cnt (asg v) e t) := by
  have all : ∀ e : Fin 8, ∀ t : Fin 2048, _ = BitVec.ofNat 32 (win (asg v) e 2048 t) :=
    double (asg v) 1024 1024 1024 rfl (addi (k0_pay3 v) (k0_pay4 v)) slices_S8x2048_o0_0_S8x1024 concatenates_S8x1024_S8x1024_S8x2048_d1
      (double (asg v) 512 1536 512 rfl (k0_pay3 v) slices_S8x2048_o0_0_S8x1536 concatenates_S8x512_S8x1536_S8x2048_d1 (prefix_at v))
  have key : k0_pay5 (k0_pay2 v) (k0_pay3 v) (k0_pay4 v) (ix1 t)
      = subi (multiReductionI .add [0] S2048 (muli (k0_pay2 v) (addi (addi (k0_pay3 v) (k0_pay4 v)) (concatenate S8x2048 1 [⟨S8x1024, broadcast S8x1024 0#32⟩, ⟨S8x1024, extractStridedSlice S8x1024 ![0, 0] (addi (k0_pay3 v) (k0_pay4 v)) slices_S8x2048_o0_0_S8x1024⟩] concatenates_S8x1024_S8x1024_S8x2048_d1))) 0#32 reduces_S8x2048_S2048 rfl) (broadcast S2048 1#32) (ix1 t) := rfl
  rw [key]
  generalize (addi (addi (k0_pay3 v) (k0_pay4 v)) _ : IVec S8x2048 32) = w at all ⊢
  pointwise
  rw [fold_single _ e (fun k hk => ?_)]
  · rw [onehot_at, win_one, if_pos he, all, win_full]
    unfold cnt
    rw [Nat.count_succ, if_pos ⟨t.isLt, he⟩, BitVec.ofNat_add]
    show 1#32 * _ - 1#32 = _
    rw [BitVec.one_mul, BitVec.add_sub_cancel]
  · rw [onehot_at, win_one, if_neg]
    · exact BitVec.zero_mul
    · rw [he]
      intro hh
      have := congrArg BitVec.toNat hh
      rw [BitVec.toNat_ofNat, BitVec.toNat_ofNat, Nat.mod_eq_of_lt (by have := e.isLt; omega), Nat.mod_eq_of_lt (by have := k.isLt; omega)] at this
      exact hk (Fin.ext this.symm)

/-! ## The slab rows of a token -/

/-- Whether the token's expert is one of its device's. -/
theorem mine_at (y : Fin 2) (v : Vec F S1x2048 .i32) (t : Fin 2048) (e : Fin 8) (he : asg v t = BitVec.ofNat 32 e) :
    k0_pay6 (BitVec.ofNat 32 y) (k0_pay1 v) (ix1 t) = BitVec.ofBool (decide (e.val / 4 = y.val)) := by
  have he' : v (ix2 0 t) = BitVec.ofNat 32 e := he
  pointwise [k0_pay6, k0_pay1]
  rw [he']
  clear he he'
  revert e y
  decide

theorem select_ofBool {α : Type} (p : Prop) [Decidable p] (x y : α) : Scalar.select (BitVec.ofBool (decide p)) x y = if p then x else y := by
  by_cases h : p <;> simp [Scalar.select, h]

theorem own_base : ∀ (e : Fin 8) (y : Fin 2), e.val / 4 = y.val →
    IntOp.muli (IntOp.subi (BitVec.ofNat 32 e) (Scalar.muli 4#32 (BitVec.ofNat 32 y))) 288#32 = BitVec.ofNat 32 (288 * (e.val % 4)) := by decide

theorem other_base : ∀ (e : Fin 8) (y : Fin 2), ¬ e.val / 4 = y.val →
    IntOp.muli (IntOp.subi (BitVec.ofNat 32 e) (Scalar.muli 4#32 (Scalar.subi 1#32 (BitVec.ofNat 32 y)))) 288#32
      = BitVec.ofNat 32 (288 * (e.val % 4)) := by decide

/-- A token's row among the slabs its device keeps. -/
theorem smv_at (y : Fin 2) (v : Vec F S1x2048 .i32) (t : Fin 2048) (e : Fin 8) (he : asg v t = BitVec.ofNat 32 e) :
    smv (BitVec.ofNat 32 y) v (ix1 t) = if e.val / 4 = y.val then BitVec.ofNat 32 (288 * (e.val % 4) + cnt (asg v) e t) else 4294967295#32 := by
  have he' : v (ix2 0 t) = BitVec.ofNat 32 e := he
  unfold smv
  have hr := rank_at v t e he
  have hm := mine_at y v t e he
  unfold k0_pay7
  generalize k0_pay5 (k0_pay2 v) (k0_pay3 v) (k0_pay4 v) = r at hr ⊢
  generalize k0_pay6 (BitVec.ofNat 32 y.val) (k0_pay1 v) = q at hm ⊢
  pointwise [k0_pay1]
  rw [he', hr, hm]
  rw [select_ofBool]
  by_cases h : e.val / 4 = y.val
  · rw [if_pos h, if_pos h, BitVec.ofNat_add]
    exact congrArg (· + _) (own_base e y h)
  · rw [if_neg h, if_neg h]

/-- A token's row among the slabs sent to the peer. -/
theorem stv_at (y : Fin 2) (v : Vec F S1x2048 .i32) (t : Fin 2048) (e : Fin 8) (he : asg v t = BitVec.ofNat 32 e) :
    stv (BitVec.ofNat 32 y) v (ix1 t) = if e.val / 4 = y.val then 4294967295#32 else BitVec.ofNat 32 (288 * (e.val % 4) + cnt (asg v) e t) := by
  have he' : v (ix2 0 t) = BitVec.ofNat 32 e := he
  unfold stv theirsBase
  have hr := rank_at v t e he
  have hm := mine_at y v t e he
  unfold k0_pay8
  generalize k0_pay5 (k0_pay2 v) (k0_pay3 v) (k0_pay4 v) = r at hr ⊢
  generalize k0_pay6 (BitVec.ofNat 32 y.val) (k0_pay1 v) = q at hm ⊢
  pointwise [k0_pay1]
  rw [he', hr, hm]
  rw [select_ofBool]
  by_cases h : e.val / 4 = y.val
  · rw [if_pos h, if_pos h]
  · rw [if_neg h, if_neg h, BitVec.ofNat_add]
    exact congrArg (· + _) (other_base e y h)

end Cert.KernelIdeal.Moe

end
-- ==== Proof.Value.Pre.lean ====
/- What the precondition says of one device's assignments: every token names one of the eight experts, and no expert is
   named by more than 288 tokens. -/
module

public import proofs.«01_k».proof.Proof.Value.Rank
public import proofs.«01_k».proof.Proof.Gen.Pre_within_capacity_KernelIdeal
public import Idealize.ShloMosaic.Lib.Routing.Ops
public import Idealize.ShloMosaic.Lib.Pointwise.IndexBridge

@[expose] public section

set_option maxRecDepth 16384

noncomputable section

namespace Cert.KernelIdeal.Moe

open Idealize.ShloMosaic

theorem ofBool_one (b : Bool) (h : BitVec.ofBool b = 1#1) : b = true := by
  cases b
  · exact absurd h (by decide)
  · rfl

/-- A word between 0 and 7 is one of the eight experts. -/
theorem expert_of (b : BitVec 32) (h0 : IntOp.cmpi .sge b 0#32 = 1#1) (h8 : IntOp.cmpi .slt b 8#32 = 1#1) :
    ∃ e : Fin 8, b = BitVec.ofNat 32 e := by
  have g0 : (0#32).toInt ≤ b.toInt := BitVec.sle_iff_toInt_le.mp (ofBool_one _ h0)
  have g8 : b.toInt < (8#32).toInt := BitVec.slt_iff_toInt_lt.mp (ofBool_one _ h8)
  rw [show (0#32 : BitVec 32).toInt = 0 by decide] at g0
  rw [show (8#32 : BitVec 32).toInt = 8 by decide] at g8
  have hlt := b.isLt
  rw [BitVec.toInt_eq_toNat_cond] at g0 g8
  have hb : b.toNat < 8 := by split at g0 <;> omega
  refine ⟨⟨b.toNat, hb⟩, BitVec.eq_of_toNat_eq ?_⟩
  rw [BitVec.toNat_ofNat, Nat.mod_eq_of_lt (by omega)]

/-- A count no token can exceed, from the comparison of its word. -/
theorem count_of (n : ℕ) (hn : n ≤ 2048) (h : IntOp.cmpi .sle (BitVec.ofNat 32 n) 288#32 = 1#1) : n ≤ 288 := by
  have g : (BitVec.ofNat 32 n).toInt ≤ (288#32).toInt := BitVec.sle_iff_toInt_le.mp (ofBool_one _ h)
  rw [show (288#32 : BitVec 32).toInt = 288 by decide, BitVec.toInt_eq_toNat_cond, BitVec.toNat_ofNat, Nat.mod_eq_of_lt (by omega),
    if_pos (by omega)] at g
  omega

theorem and_one (a b : BitVec 1) (h : IntOp.andi a b = 1#1) : a = 1#1 ∧ b = 1#1 := by
  revert a b; decide

/-- The precondition on one device's arrays, read off. -/
theorem pre_at {F : FTy → Type} [FloatOps F] (x : FVec F ⟨2, ![2048, 1024]⟩ .f32) (a : IVec ⟨1, ![2048]⟩ 32)
    (w1 : FVec F ⟨3, ![4, 1024, 2048]⟩ .f32) (w2 : FVec F ⟨3, ![4, 2048, 1024]⟩ .f32)
    (h : Cert.Pre_within_capacity_KernelIdeal.fn (F := F) x a w1 w2 = fun _ => 1#1) :
    (∀ t : Fin 2048, ∃ e : Fin 8, a (ix1 t) = BitVec.ofNat 32 e) ∧
      ∀ e : Fin 8, cnt (fun t => a (ix1 t)) e 2048 ≤ 288 := by
  have hp : ∀ e : Fin 8, ∀ t : Fin 2048, _ = 1#1 := fun e t => congrFun h (ix2 e t)
  have cell : ∀ e : Fin 8, ∀ t : Fin 2048,
      (IntOp.cmpi .sge (a (ix1 t)) 0#32 = 1#1 ∧ IntOp.cmpi .slt (a (ix1 t)) 8#32 = 1#1) ∧
        IntOp.cmpi .sle (BitVec.ofNat 32 (cnt (fun t => a (ix1 t)) e 2048)) 288#32 = 1#1 := by
    intro e t
    have := hp e t
    unfold Cert.Pre_within_capacity_KernelIdeal.fn at this
    dsimp only at this
    have hc := Idealize.ShloMosaic.Routing.reduce_count (n := 8) (m := 2048) (by decide)
      (cmpi .eq (broadcastInDim Cert.Pre_within_capacity_KernelIdeal.S8x2048 ![0, 1] Cert.Pre_within_capacity_KernelIdeal.Gen.bcast_S1x2048_S8x2048_0_1
        (broadcastInDim Cert.Pre_within_capacity_KernelIdeal.S1x2048 ![1] Cert.Pre_within_capacity_KernelIdeal.Gen.bcast_S2048_S1x2048_1 a))
        (iotaInDim Cert.Pre_within_capacity_KernelIdeal.S8x2048 32 0)) Cert.Pre_within_capacity_KernelIdeal.Gen.natLt_1_32
      Cert.Pre_within_capacity_KernelIdeal.Gen.reducesTo_S8x2048_S8_d1 Cert.Pre_within_capacity_KernelIdeal.Gen.h_S_ e
      (Names (fun t => a (ix1 t)) e) (fun q => ?_)
    · rw [← ix1_eq_valueIdx] at hc
      generalize Host.reduce _ _ _ _ _ = v at this hc
      pointwise at this
      rw [hc] at this
      exact ⟨and_one _ _ (and_one _ _ this).1, (and_one _ _ this).2⟩
    · rw [← ix2_eq_valueIdx]
      pointwise
      exact ⟨fun hq => ⟨q.isLt, eq_of_beq (ofBool_one _ hq)⟩, fun ⟨_, hq⟩ => by
        show BitVec.ofBool (a (ix1 q) == _) = 1#1
        rw [beq_iff_eq.mpr hq]; rfl⟩
  exact ⟨fun t => expert_of _ (cell 0 t).1.1 (cell 0 t).1.2, fun e => count_of _ (Nat.count_le _) (cell e 0).2⟩

end Cert.KernelIdeal.Moe

end
-- ==== Proof.Value.Vecs.lean ====
/- The kernel's slabs as sums: the rows a slab gathers, the feed-forward of a slab of rows, and the output block as the sum
   of the slab rows its tokens point to. -/
module

public import proofs.«01_k».proof.Proof.Value.Rank
public import Idealize.ShloMosaic.Lib.Pointwise.IndexBridge

@[expose] public section

set_option maxRecDepth 16384

noncomputable section

namespace Cert.KernelIdeal.Moe

open Idealize.ShloMosaic
open Cert.KernelIdeal.Gen

/-- The rows of `x` whose word in `v` is one of the 288 from `b` on, each at its place. -/
def sel (b : BitVec 32) (v : IVec S2048 32) (x : FVec Ideal S2048x1024 .bf16) : FVec Ideal S288x1024 .bf16 :=
  truncf .bf16 (matmul dot_S288x2048_S2048x1024_S288x1024_1_0_0_1_n_n none
    (truncf .bf16 (sitofp .f32 (extui 32 (cmpi .eq
      (broadcastTo S288x2048 (shapeCast S1x2048 v shapeCasts_S2048_S1x2048) broadcasts_S1x2048_S288x2048)
      (addi (iota .tc S288x2048 32 [0] iota_S288x2048_d0_w32) (broadcast S288x2048 b))) natLt_1_32)) bitsLt_bf16_f32 : FVec Ideal S288x2048 .bf16)
    x (constant S288x1024 .f32 0x00000000#32)) bitsLt_bf16_f32

/-- The feed-forward of the rows `m` through one half of the hidden columns, added to `acc`. -/
def half (acc : FVec Ideal S288x1024 .f32) (m : FVec Ideal S288x1024 .bf16) (p q : Vec Ideal S1x1024x1024 .f32) : FVec Ideal S288x1024 .f32 :=
  addf acc (matmul dot_S288x1024_S1024x1024_S288x1024_1_0_0_1_n_n none
    (truncf .bf16 (maximumf (matmul dot_S288x1024_S1024x1024_S288x1024_1_0_0_1_n_n none m
      (shapeCast S1024x1024 p shapeCasts_S1x1024x1024_S1024x1024 : FVec Ideal S1024x1024 .f32) (constant S288x1024 .f32 0x00000000#32))
      (broadcast S288x1024 (Scalar.ofBits .f32 0x00000000#32))) bitsLt_bf16_f32 : FVec Ideal S288x1024 .bf16)
    (shapeCast S1024x1024 q shapeCasts_S1x1024x1024_S1024x1024 : FVec Ideal S1024x1024 .f32) (constant S288x1024 .f32 0x00000000#32))

/-- The feed-forward of the rows `m` through expert `e`. -/
def ffn (m : FVec Ideal S288x1024 .bf16) (w1 : Vec Ideal S4x1024x2048 .f32) (w2 : Vec Ideal S4x2048x1024 .f32) (e : Fin 4) : FVec Ideal S288x1024 .bf16 :=
  truncf .bf16 (half (half (broadcast S288x1024 (Scalar.ofBits .f32 0x00000000#32)) m (w1Tile w1 e 0) (w2Tile w2 e 0)) m
    (w1Tile w1 e 1) (w2Tile w2 e 1)) bitsLt_bf16_f32

theorem theirsV_eq (my : BitVec 32) (a : Vec Ideal S1x2048 .i32) (x : Vec Ideal S2048x1024 .f32) (e : Fin 4) :
    theirsV my a x e = shapeCast S1x288x1024 (sel (BitVec.ofNat 32 (288 * e)) (stv my a) (k0_pay9 x)) shapeCasts_S288x1024_S1x288x1024 := by
  match e with
  | ⟨0, _⟩ => rfl
  | ⟨1, _⟩ => rfl
  | ⟨2, _⟩ => rfl
  | ⟨3, _⟩ => rfl

theorem backV_eq (r : Fin 4 → Vec Ideal S1x288x1024 .bf16) (w1 : Vec Ideal S4x1024x2048 .f32) (w2 : Vec Ideal S4x2048x1024 .f32) (e : Fin 4) :
    backV r w1 w2 e = shapeCast S1x288x1024 (ffn (shapeCast S288x1024 (r e) shapeCasts_S1x288x1024_S288x1024) w1 w2 e) shapeCasts_S288x1024_S1x288x1024 := by
  match e with
  | ⟨0, _⟩ => rfl
  | ⟨1, _⟩ => rfl
  | ⟨2, _⟩ => rfl
  | ⟨3, _⟩ => rfl

theorem mineV_eq (my : BitVec 32) (a : Vec Ideal S1x2048 .i32) (x : Vec Ideal S2048x1024 .f32) (w1 : Vec Ideal S4x1024x2048 .f32)
    (w2 : Vec Ideal S4x2048x1024 .f32) (e : Fin 4) :
    mineV my a x w1 w2 e = shapeCast S1x288x1024 (ffn (sel (BitVec.ofNat 32 (288 * e)) (smv my a) (k0_pay9 x)) w1 w2 e) shapeCasts_S288x1024_S1x288x1024 := by
  match e with
  | ⟨0, _⟩ => rfl
  | ⟨1, _⟩ => rfl
  | ⟨2, _⟩ => rfl
  | ⟨3, _⟩ => rfl

/-- A selected entry: the comparison's word, as a number, times the entry. -/
theorem onehot_mul (u w : BitVec 32) (x : Ideal .bf16) :
    (FloatOps.sitofp .f32 (BitVec.setWidth 32 (IntOp.cmpi .eq u w)) : Ideal .f32) * x = if u = w then x else (0 : EReal) := by
  by_cases h : u = w
  · rw [if_pos h, h]
    have : BitVec.setWidth 32 (IntOp.cmpi .eq w w) = 1#32 := by simp [IntOp.cmpi]
    rw [this]
    show ((((1#32 : BitVec 32).toInt : ℝ) : EReal)) * x = x
    rw [show (1#32 : BitVec 32).toInt = 1 by decide, Int.cast_one, EReal.coe_one, one_mul]
  · rw [if_neg h]
    have : BitVec.setWidth 32 (IntOp.cmpi .eq u w) = 0#32 := by simp [IntOp.cmpi, beq_eq_false_iff_ne.mpr h]
    rw [this]
    show ((((0#32 : BitVec 32).toInt : ℝ) : EReal)) * x = 0
    rw [show (0#32 : BitVec 32).toInt = 0 by decide, Int.cast_zero, EReal.coe_zero, zero_mul]

theorem sel_at (b : BitVec 32) (v : IVec S2048 32) (x : FVec Ideal S2048x1024 .bf16) (r : Fin 288) (d : Fin 1024) :
    sel b v x (ix2 r d) = ∑ t : Fin 2048, if v (ix1 t) = BitVec.ofNat 32 r + b then x (ix2 t d) else (0 : EReal) := by
  unfold sel
  pointwise
  exact Finset.sum_congr rfl fun t _ => onehot_mul _ _ _

theorem half_at (acc : FVec Ideal S288x1024 .f32) (m : FVec Ideal S288x1024 .bf16) (p q : Vec Ideal S1x1024x1024 .f32) (r : Fin 288) (d : Fin 1024) :
    half acc m p q (ix2 r d) = acc (ix2 r d) + ∑ j : Fin 1024, max (∑ k : Fin 1024, m (ix2 r k) * p (ix3 0 k j)) 0 * q (ix3 0 j d) := by
  unfold half
  pointwise

/-- The feed-forward of one row through expert `e`, over all hidden columns. -/
def ff (row : Fin 1024 → EReal) (u1 : Fin 1024 → Fin 2048 → EReal) (u2 : Fin 2048 → Fin 1024 → EReal) (d : Fin 1024) : EReal :=
  ∑ f : Fin 2048, max (∑ k : Fin 1024, row k * u1 k f) 0 * u2 f d

theorem sum_halves (f : Fin 2048 → EReal) :
    ∑ i, f i = (∑ j : Fin 1024, f ⟨j.val, by have := j.isLt; omega⟩) + ∑ j : Fin 1024, f ⟨1024 + j.val, by have := j.isLt; omega⟩ :=
  Fin.sum_univ_add (a := 1024) (b := 1024) f

theorem ffn_at (m : FVec Ideal S288x1024 .bf16) (w1 : Vec Ideal S4x1024x2048 .f32) (w2 : Vec Ideal S4x2048x1024 .f32) (e : Fin 4)
    (r : Fin 288) (d : Fin 1024) :
    ffn m w1 w2 e (ix2 r d) = ff (fun k => m (ix2 r k)) (fun k f => w1 (ix3 e k f)) (fun f d => w2 (ix3 e f d)) d := by
  unfold ffn ff
  pointwise
  rw [half_at, half_at]
  pointwise [w1Tile, w2Tile]
  simp only [← ix3_eq_valueIdx]
  exact (sum_halves fun f => max (∑ k : Fin 1024, m (ix2 r k) * w1 (ix3 e k f)) 0 * w2 (ix3 e f d)).symm

/-- The rows of `y` the tokens of one quarter of `v` point to. -/
def quart (o : ℕ) (h : S2048.Slices ![o] S512) (v : IVec S2048 32) (y : Vec Ideal S4x288x1024 .bf16) : FVec Ideal S512x1024 .f32 :=
  matmul dot_S512x1152_S1152x1024_S512x1024_1_0_0_1_n_n none
    (truncf .bf16 (sitofp .f32 (extui 32 (cmpi .eq
      (broadcastTo S512x1152 (shapeCast S512x1 (extractStridedSlice S512 ![o] v h) shapeCasts_S512_S512x1) broadcasts_S512x1_S512x1152) cols) natLt_1_32)) bitsLt_bf16_f32 : FVec Ideal S512x1152 .bf16)
    (shapeCast S1152x1024 y shapeCasts_S4x288x1024_S1152x1024 : FVec Ideal S1152x1024 .bf16) (constant S512x1024 .f32 0x00000000#32)

/-- One quarter of the output block. -/
def outQ (o : ℕ) (h : S2048.Slices ![o] S512) (u v : IVec S2048 32) (ym yb : Vec Ideal S4x288x1024 .bf16) : FVec Ideal S512x1024 .f32 :=
  addf (shapeCast S512x1024 (quart o h u ym) shapeCasts_S512x1024_S512x1024) (quart o h v yb)

/-- The row of `y` a word points to: the sum over all rows, each counted when it is the one. -/
def pick (w : BitVec 32) (y : Vec Ideal S4x288x1024 .bf16) (d : Fin 1024) : EReal :=
  ∑ s : Fin 1152, if w = BitVec.ofNat 32 s then y (ix3 ⟨s.val / 288, by have := s.isLt; omega⟩ ⟨s.val % 288, Nat.mod_lt _ (by decide)⟩ d) else 0

theorem quart_at (o : ℕ) (h : S2048.Slices ![o] S512) (v : IVec S2048 32) (y : Vec Ideal S4x288x1024 .bf16) (i : Fin 512) (d : Fin 1024)
    (t : Fin 2048) (ht : t.val = o + i.val) :
    quart o h v y (ix2 i d) = pick (v (ix1 t)) y d := by
  unfold quart pick
  pointwise
  refine Finset.sum_congr rfl fun s _ => ?_
  rw [onehot_mul, show (⟨o + i.val, _⟩ : Fin 2048) = t from Fin.ext ht.symm]

theorem outQ_at (o : ℕ) (h : S2048.Slices ![o] S512) (u v : IVec S2048 32) (ym yb : Vec Ideal S4x288x1024 .bf16) (i : Fin 512) (d : Fin 1024)
    (t : Fin 2048) (ht : t.val = o + i.val) :
    outQ o h u v ym yb (ix2 i d) = pick (u (ix1 t)) ym d + pick (v (ix1 t)) yb d := by
  unfold outQ
  pointwise
  rw [quart_at o h u ym i d t ht, quart_at o h v yb i d t ht]

theorem outV_at (my : BitVec 32) (a : Vec Ideal S1x2048 .i32) (ym yb : Vec Ideal S4x288x1024 .bf16) (q : Fin 4) (i : Fin 512) (d : Fin 1024)
    (t : Fin 2048) (ht : t.val = 512 * q.val + i.val) :
    outV my a ym yb q (ix2 i d) = pick (smv my a (ix1 t)) ym d + pick (stv my a (ix1 t)) yb d := by
  match q with
  | ⟨0, _⟩ => exact outQ_at 0 slices_S2048_o0_S512 (smv my a) (stv my a) ym yb i d t ht
  | ⟨1, _⟩ => exact outQ_at 512 slices_S2048_o512_S512 (smv my a) (stv my a) ym yb i d t ht
  | ⟨2, _⟩ => exact outQ_at 1024 slices_S2048_o1024_S512 (smv my a) (stv my a) ym yb i d t ht
  | ⟨3, _⟩ => exact outQ_at 1536 slices_S2048_o1536_S512 (smv my a) (stv my a) ym yb i d t ht

/-- One entry of the output block. -/
theorem outC_at (my : BitVec 32) (a : Vec Ideal S1x2048 .i32) (ym yb : Vec Ideal S4x288x1024 .bf16) (t : Fin 2048) (d : Fin 1024) :
    outC (outV my a ym yb) (ix2 t d) = pick (smv my a (ix1 t)) ym d + pick (stv my a (ix1 t)) yb d := by
  show outV my a ym yb ⟨t.val / 512, _⟩ (ValueIdx.ix2 ⟨t.val % 512, Nat.mod_lt _ (by decide)⟩ d) = _
  rw [← ix2_eq_valueIdx]
  exact outV_at my a ym yb ⟨t.val / 512, _⟩ ⟨t.val % 512, _⟩ d t (Nat.div_add_mod t.val 512).symm

theorem pay9_at (x : Vec Ideal S2048x1024 .f32) (t : Fin 2048) (d : Fin 1024) : k0_pay9 x (ix2 t d) = x (ix2 t d) := by
  pointwise [k0_pay9]

/-- One entry of a slab sent. -/
theorem theirsV_at (my : BitVec 32) (a : Vec Ideal S1x2048 .i32) (x : Vec Ideal S2048x1024 .f32) (e : Fin 4) (r : Fin 288) (d : Fin 1024) :
    theirsV my a x e (ix3 0 r d)
      = ∑ t : Fin 2048, if stv my a (ix1 t) = BitVec.ofNat 32 r + BitVec.ofNat 32 (288 * e) then x (ix2 t d) else (0 : EReal) := by
  rw [theirsV_eq]
  pointwise
  rw [sel_at]
  exact Finset.sum_congr rfl fun t _ => by rw [pay9_at]

/-- One entry of a slab a device computes for itself. -/
theorem mineV_at (my : BitVec 32) (a : Vec Ideal S1x2048 .i32) (x : Vec Ideal S2048x1024 .f32) (w1 : Vec Ideal S4x1024x2048 .f32)
    (w2 : Vec Ideal S4x2048x1024 .f32) (e : Fin 4) (r : Fin 288) (d : Fin 1024) :
    mineV my a x w1 w2 e (ix3 0 r d)
      = ff (fun k => ∑ t : Fin 2048, if smv my a (ix1 t) = BitVec.ofNat 32 r + BitVec.ofNat 32 (288 * e) then x (ix2 t k) else (0 : EReal))
        (fun k f => w1 (ix3 e k f)) (fun f d => w2 (ix3 e f d)) d := by
  rw [mineV_eq]
  pointwise
  rw [ffn_at]
  simp only [sel_at, pay9_at]

/-- One entry of a slab sent back. -/
theorem backV_at (r : Fin 4 → Vec Ideal S1x288x1024 .bf16) (w1 : Vec Ideal S4x1024x2048 .f32) (w2 : Vec Ideal S4x2048x1024 .f32) (e : Fin 4)
    (i : Fin 288) (d : Fin 1024) :
    backV r w1 w2 e (ix3 0 i d)
      = ff (fun k => r e (ix3 0 i k)) (fun k f => w1 (ix3 e k f)) (fun f d => w2 (ix3 e f d)) d := by
  rw [backV_eq]
  pointwise
  rw [ffn_at]
  congr 1
  funext k
  pointwise

end Cert.KernelIdeal.Moe

end
-- ==== Proof.Value.Route.lean ====
/- Each token goes to a slab row of its own and comes back from it, when no expert has more than 288 tokens: the sums that
   gather and scatter rows have one term each, and the output row of a token is the feed-forward of its row of `x`. -/
module

public import proofs.«01_k».proof.Proof.Value.Vecs

@[expose] public section

set_option maxRecDepth 16384

noncomputable section

namespace Cert.KernelIdeal.Moe

open Idealize.ShloMosaic
open Cert.KernelIdeal.Gen

/-- The assignments are in range and within capacity. -/
structure Fits (a : Fin 2048 → BitVec 32) : Prop where
  named : ∀ t, ∃ e : Fin 8, a t = BitVec.ofNat 32 e
  room : ∀ e : Fin 8, cnt a e 2048 ≤ 288

/-- Among the tokens of an expert that fits, a rank is a row of a slab. -/
theorem Fits.rank_lt {a : Fin 2048 → BitVec 32} (h : Fits a) (t : Fin 2048) (e : Fin 8) (he : a t = BitVec.ofNat 32 e) :
    cnt a e t < 288 := by
  have h1 : cnt a e (t + 1) = cnt a e t + 1 := by
    unfold cnt
    rw [Nat.count_succ, if_pos ⟨t.isLt, he⟩]
  have h2 : cnt a e (t + 1) ≤ cnt a e 2048 := Nat.count_monotone _ t.isLt
  have h3 := h.room e
  omega

/-- The words `v` give each token whose expert is in `g` its slab row, and every other token none. -/
structure Slots (a : Fin 2048 → BitVec 32) (g : Fin 8 → Prop) (v : IVec S2048 32) : Prop where
  inj : ∀ e e' : Fin 8, g e → g e' → e.val % 4 = e'.val % 4 → e = e'
  own : ∀ (t : Fin 2048) (e : Fin 8), a t = BitVec.ofNat 32 e → g e → v (ix1 t) = BitVec.ofNat 32 (288 * (e.val % 4) + cnt a e t)
  none : ∀ (t : Fin 2048) (e : Fin 8), a t = BitVec.ofNat 32 e → ¬ g e → v (ix1 t) = 4294967295#32

theorem word_inj {n k : ℕ} (hn : n < 2 ^ 32) (hk : k < 2 ^ 32) (h : BitVec.ofNat 32 n = BitVec.ofNat 32 k) : n = k := by
  have := congrArg BitVec.toNat h
  rwa [BitVec.toNat_ofNat, BitVec.toNat_ofNat, Nat.mod_eq_of_lt hn, Nat.mod_eq_of_lt hk] at this

/-- A slab row is one token's. -/
theorem Slots.eq_iff {a : Fin 2048 → BitVec 32} {g : Fin 8 → Prop} {v : IVec S2048 32} (h : Slots a g v) (hf : Fits a)
    (t : Fin 2048) (e : Fin 8) (he : a t = BitVec.ofNat 32 e) (hg : g e) (t' : Fin 2048) :
    v (ix1 t') = BitVec.ofNat 32 (cnt a e t) + BitVec.ofNat 32 (288 * (e.val % 4)) ↔ t' = t := by
  have hr := hf.rank_lt t e he
  rw [← BitVec.ofNat_add, Nat.add_comm]
  constructor
  · intro hv
    obtain ⟨e', he'⟩ := hf.named t'
    by_cases hg' : g e'
    · rw [h.own t' e' he' hg'] at hv
      have hr' := hf.rank_lt t' e' he'
      have hn := word_inj (by omega) (by omega) hv
      obtain rfl := h.inj e' e hg' hg (by omega)
      exact Fin.ext (Nat.count_injective (p := Names a e') ⟨t'.isLt, he'⟩ ⟨t.isLt, he⟩ (by unfold cnt at hn; omega))
    · rw [h.none t' e' he' hg'] at hv
      have := word_inj (n := 4294967295) (by decide) (by omega) hv
      omega
  · rintro rfl
    exact h.own t' e he hg

/-- The row gathered for a token is its own. -/
theorem Slots.gather {a : Fin 2048 → BitVec 32} {g : Fin 8 → Prop} {v : IVec S2048 32} (h : Slots a g v) (hf : Fits a)
    (t : Fin 2048) (e : Fin 8) (he : a t = BitVec.ofNat 32 e) (hg : g e) (x : Fin 2048 → EReal) :
    (∑ t' : Fin 2048, if v (ix1 t') = BitVec.ofNat 32 (cnt a e t) + BitVec.ofNat 32 (288 * (e.val % 4)) then x t' else (0 : EReal)) = x t := by
  simp only [h.eq_iff hf t e he hg]
  rw [Finset.sum_ite_eq' Finset.univ t x, if_pos (Finset.mem_univ t)]

/-- A word that is a slab row picks that row. -/
theorem pick_row (n : ℕ) (hn : n < 1152) (y : Vec Ideal S4x288x1024 .bf16) (d : Fin 1024) :
    pick (BitVec.ofNat 32 n) y d = y (ix3 ⟨n / 288, by omega⟩ ⟨n % 288, Nat.mod_lt _ (by decide)⟩ d) := by
  unfold pick
  have key : ∀ s : Fin 1152, BitVec.ofNat 32 n = BitVec.ofNat 32 s ↔ s = ⟨n, hn⟩ := fun s =>
    ⟨fun h => Fin.ext (word_inj (by omega) (by have := s.isLt; omega) h).symm, fun h => by rw [h]⟩
  simp only [key]
  rw [Finset.sum_ite_eq' Finset.univ (⟨n, hn⟩ : Fin 1152), if_pos (Finset.mem_univ _)]

/-- A word that is no slab row picks nothing. -/
theorem pick_none (y : Vec Ideal S4x288x1024 .bf16) (d : Fin 1024) : pick 4294967295#32 y d = 0 := by
  unfold pick
  refine Finset.sum_eq_zero fun s _ => if_neg fun h => ?_
  have := word_inj (n := 4294967295) (by decide) (by have := s.isLt; omega) h
  have := s.isLt
  omega

/-- What a token picks: its row of its expert's slab. -/
theorem Slots.scatter {a : Fin 2048 → BitVec 32} {g : Fin 8 → Prop} {v : IVec S2048 32} (h : Slots a g v) (hf : Fits a)
    (t : Fin 2048) (e : Fin 8) (he : a t = BitVec.ofNat 32 e) (hg : g e) (y : Fin 4 → Vec Ideal S1x288x1024 .bf16) (d : Fin 1024) :
    pick (v (ix1 t)) (stack y) d = y ⟨e.val % 4, Nat.mod_lt _ (by decide)⟩ (ix3 0 ⟨cnt a e t, hf.rank_lt t e he⟩ d) := by
  have hr := hf.rank_lt t e he
  rw [h.own t e he hg, pick_row _ (by omega)]
  show y ⟨(288 * (e.val % 4) + cnt a e t) / 288, _⟩ (ValueIdx.ix3 0 ⟨(288 * (e.val % 4) + cnt a e t) % 288, Nat.mod_lt _ (by decide)⟩ d) = _
  rw [← ix3_eq_valueIdx]
  have h1 : (288 * (e.val % 4) + cnt a e t) / 288 = e.val % 4 := by omega
  have h2 : (288 * (e.val % 4) + cnt a e t) % 288 = cnt a e t := by omega
  simp only [h1, h2]

theorem smv_slots (y : Fin 2) (v : Vec Ideal S1x2048 .i32) : Slots (asg v) (fun e => e.val / 4 = y.val) (smv (BitVec.ofNat 32 y) v) where
  inj e e' h h' hm := Fin.ext (by omega)
  own t e he hg := by rw [smv_at y v t e he, if_pos hg]
  none t e he hg := by rw [smv_at y v t e he, if_neg hg]

theorem stv_slots (y : Fin 2) (v : Vec Ideal S1x2048 .i32) : Slots (asg v) (fun e => ¬ e.val / 4 = y.val) (stv (BitVec.ofNat 32 y) v) where
  inj e e' h h' hm := Fin.ext (by have := e.isLt; have := e'.isLt; have := y.isLt; omega)
  own t e he hg := by rw [stv_at y v t e he, if_neg hg]
  none t e he hg := by rw [stv_at y v t e he, if_pos (not_not.mp hg)]

/-- The output of a device in half `y` whose peer has the weights `p1`, `p2`: each token's feed-forward through its expert,
    whichever of the two devices holds it. -/
theorem out_at (y : Fin 2) (a : Vec Ideal S1x2048 .i32) (hf : Fits (asg a)) (x : Vec Ideal S2048x1024 .f32)
    (w1 p1 : Vec Ideal S4x1024x2048 .f32) (w2 p2 : Vec Ideal S4x2048x1024 .f32) (t : Fin 2048) (e : Fin 8)
    (he : asg a t = BitVec.ofNat 32 e) (d : Fin 1024) :
    outC (outV (BitVec.ofNat 32 y) a (stack (mineV (BitVec.ofNat 32 y) a x w1 w2)) (stack (backV (theirsV (BitVec.ofNat 32 y) a x) p1 p2))) (ix2 t d)
      = ff (fun k => x (ix2 t k))
        (fun k f => (if e.val / 4 = y.val then w1 else p1) (ix3 ⟨e.val % 4, Nat.mod_lt _ (by decide)⟩ k f))
        (fun f d => (if e.val / 4 = y.val then w2 else p2) (ix3 ⟨e.val % 4, Nat.mod_lt _ (by decide)⟩ f d)) d := by
  rw [outC_at]
  by_cases hg : e.val / 4 = y.val
  · rw [if_pos hg, if_pos hg, (stv_slots y a).none t e he (not_not.mpr hg), pick_none, add_zero, (smv_slots y a).scatter hf t e he hg, mineV_at]
    simp only [(smv_slots y a).gather hf t e he hg]
  · rw [if_neg hg, if_neg hg, (smv_slots y a).none t e he hg, pick_none, zero_add, (stv_slots y a).scatter hf t e he hg, backV_at]
    simp only [theirsV_at, (stv_slots y a).gather hf t e he hg]

end Cert.KernelIdeal.Moe

end
-- ==== Proof.Value.Ref.lean ====
/- The reference at one entry: the feed-forward of the token's row through the expert it names. -/
module

public import proofs.«01_k».proof.Proof.Value.Vecs
public import proofs.«01_k».proof.Proof.Gen.ReferenceIdeal.Run
public import Idealize.ShloMosaic.Lib.Tactic.CleanTypes

@[expose] public section

set_option maxRecDepth 16384

noncomputable section

namespace Cert.ReferenceIdeal.Moe

open Idealize.ShloMosaic
open Cert.ReferenceIdeal.Gen
open Cert.KernelIdeal.Moe (ff select_ofBool)

/-- One step of the reference: where the token names expert `n`, its feed-forward through that expert, else what was there. -/
def pass (n : ℕ) (b : BitVec 32) (h1 : S8x1024x2048.Slices ![n, 0, 0] S1x1024x2048) (h2 : S8x2048x1024.Slices ![n, 0, 0] S1x2048x1024)
    (x : FVec Ideal S4096x1024 .f32) (a : IVec S4096 32) (w1 : FVec Ideal S8x1024x2048 .f32) (w2 : FVec Ideal S8x2048x1024 .f32)
    (prev : FVec Ideal S4096x1024 .f32) : FVec Ideal S4096x1024 .f32 :=
  select (broadcastInDim S4096x1024 ![0, 1] bcast_S4096x1_S4096x1024_0_1 (broadcastInDim S4096x1 ![0] bcast_S4096_S4096x1_0
      (cmpi .eq a (broadcastInDim S4096 ![] bcast_S_S4096 (constantI S_ 32 b)))))
    (Host.dotGeneral dot_S4096x2048_S2048x1024_S4096x1024_1_0_0_1_n_n none
      (maximumf (Host.dotGeneral dot_S4096x1024_S1024x2048_S4096x2048_1_0_0_1_n_n none x
        (shapeCast S1024x2048 (extractStridedSlice S1x1024x2048 ![n, 0, 0] w1 h1) shapeCasts_S1x1024x2048_S1024x2048 : FVec Ideal S1024x2048 .f32))
        (broadcastInDim S4096x2048 ![] bcast_S_S4096x2048 (constant S_ .f32 0x00000000#32)))
      (shapeCast S2048x1024 (extractStridedSlice S1x2048x1024 ![n, 0, 0] w2 h2) shapeCasts_S1x2048x1024_S2048x1024 : FVec Ideal S2048x1024 .f32)) prev

theorem pass_at (n : ℕ) (b : BitVec 32) (h1 : S8x1024x2048.Slices ![n, 0, 0] S1x1024x2048) (h2 : S8x2048x1024.Slices ![n, 0, 0] S1x2048x1024)
    (x : FVec Ideal S4096x1024 .f32) (a : IVec S4096 32) (w1 : FVec Ideal S8x1024x2048 .f32) (w2 : FVec Ideal S8x2048x1024 .f32)
    (prev : FVec Ideal S4096x1024 .f32) (e : Fin 8) (hn : e.val = n) (t : Fin 4096) (d : Fin 1024) :
    pass n b h1 h2 x a w1 w2 prev (ix2 t d)
      = if a (ix1 t) = b then ff (fun k => x (ix2 t k)) (fun k f => w1 (ix3 e k f)) (fun f d => w2 (ix3 e f d)) d else prev (ix2 t d) := by
  subst hn
  unfold pass ff
  pointwise
  by_cases h : a (ix1 t) = b
  · rw [if_pos h, h]
    simp [Scalar.select, IntOp.cmpi]
  · rw [if_neg h]
    simp [Scalar.select, IntOp.cmpi, beq_eq_false_iff_ne.mpr h]

/-- The reference over whole arrays, expert after expert. -/
def whole (x : FVec Ideal S4096x1024 .f32) (a : IVec S4096 32) (w1 : FVec Ideal S8x1024x2048 .f32) (w2 : FVec Ideal S8x2048x1024 .f32) :
    FVec Ideal S4096x1024 .f32 :=
  pass 7 7#32 slices_S8x1024x2048_S1x1024x2048_7_0_0 slices_S8x2048x1024_S1x2048x1024_7_0_0 x a w1 w2 <|
  pass 6 6#32 slices_S8x1024x2048_S1x1024x2048_6_0_0 slices_S8x2048x1024_S1x2048x1024_6_0_0 x a w1 w2 <|
  pass 5 5#32 slices_S8x1024x2048_S1x1024x2048_5_0_0 slices_S8x2048x1024_S1x2048x1024_5_0_0 x a w1 w2 <|
  pass 4 4#32 slices_S8x1024x2048_S1x1024x2048_4_0_0 slices_S8x2048x1024_S1x2048x1024_4_0_0 x a w1 w2 <|
  pass 3 3#32 slices_S8x1024x2048_S1x1024x2048_3_0_0 slices_S8x2048x1024_S1x2048x1024_3_0_0 x a w1 w2 <|
  pass 2 2#32 slices_S8x1024x2048_S1x1024x2048_2_0_0 slices_S8x2048x1024_S1x2048x1024_2_0_0 x a w1 w2 <|
  pass 1 1#32 slices_S8x1024x2048_S1x1024x2048_1_0_0 slices_S8x2048x1024_S1x2048x1024_1_0_0 x a w1 w2 <|
  pass 0 0#32 slices_S8x1024x2048_S1x1024x2048_0_0_0 slices_S8x2048x1024_S1x2048x1024_0_0_0 x a w1 w2
    (broadcastInDim S4096x1024 ![] bcast_S_S4096x1024 (constant S_ .f32 0x00000000#32))

theorem res_eq (m : (ℓ : Loc nD τ sig) → Buf (Elt Ideal) ℓ) (c : Dev nD) :
    Cert.ReferenceIdeal.Value.res_main_v96 m c
      = whole (m ((c.tc : Thread nD τ).loc main_arg0)) (m ((c.tc : Thread nD τ).loc main_arg1)) (m ((c.tc : Thread nD τ).loc main_arg2))
        (m ((c.tc : Thread nD τ).loc main_arg3)) := rfl

/-- One entry of the reference, for a token that names an expert. -/
theorem whole_at (x : FVec Ideal S4096x1024 .f32) (a : IVec S4096 32) (w1 : FVec Ideal S8x1024x2048 .f32) (w2 : FVec Ideal S8x2048x1024 .f32)
    (t : Fin 4096) (e : Fin 8) (he : a (ix1 t) = BitVec.ofNat 32 e) (d : Fin 1024) :
    whole x a w1 w2 (ix2 t d) = ff (fun k => x (ix2 t k)) (fun k f => w1 (ix3 e k f)) (fun f d => w2 (ix3 e f d)) d := by
  unfold whole
  rw [pass_at 7 7#32 _ _ x a w1 w2 _ 7 rfl, pass_at 6 6#32 _ _ x a w1 w2 _ 6 rfl, pass_at 5 5#32 _ _ x a w1 w2 _ 5 rfl,
    pass_at 4 4#32 _ _ x a w1 w2 _ 4 rfl, pass_at 3 3#32 _ _ x a w1 w2 _ 3 rfl, pass_at 2 2#32 _ _ x a w1 w2 _ 2 rfl,
    pass_at 1 1#32 _ _ x a w1 w2 _ 1 rfl, pass_at 0 0#32 _ _ x a w1 w2 _ 0 rfl, he]
  clear he
  fin_cases e <;> simp

end Cert.ReferenceIdeal.Moe

end
-- ==== Proof.Value.Whole.lean ====
/- The devices' output blocks are the blocks of the reference's array: the block a device holds of each argument, and the
   output entry of a token read off both sides. -/
module

public import proofs.«01_k».proof.Proof.Value.Pre
public import proofs.«01_k».proof.Proof.Value.Route
public import proofs.«01_k».proof.Proof.Value.Ref
public import proofs.«01_k».proof.Proof.KernelIdeal.Proto
public import proofs.«01_k».proof.Proof.Gen.KernelIdeal.Frame
public import Idealize.ShloMosaic.Lib.Layout

@[expose] public section

set_option maxRecDepth 16384

noncomputable section

namespace Cert.KernelIdeal.Moe

open Idealize.ShloMosaic Idealize.ShloMosaic.TcCoe
open Cert.KernelIdeal.Gen

/-- Which half of the tokens and of the experts a device holds. -/
def side (c : Dev nD) : Fin 2 := ⟨c.val / 2 % 2, Nat.mod_lt _ (by decide)⟩

theorem myWord_eq : ∀ c : Dev nD, myWord c = BitVec.ofNat 32 (side c) := by decide
theorem side_peer : ∀ c : Dev nD, (side (peer c)).val = 1 - (side c).val := by decide

theorem mesh2 : ∀ c : Dev nD, ((Layout.meshBlock [2, 2, 2] ![[1], []] c : (b : Fin 2) → _) 0).val = (side c).val
    ∧ ((Layout.meshBlock [2, 2, 2] ![[1], []] c : (b : Fin 2) → _) 1).val = 0 := by decide
theorem mesh1 : ∀ c : Dev nD, ((Layout.meshBlock [2, 2, 2] ![[1]] c : (b : Fin 1) → _) 0).val = (side c).val := by decide
theorem mesh3 : ∀ c : Dev nD, ((Layout.meshBlock [2, 2, 2] ![[1], [], []] c : (b : Fin 3) → _) 0).val = (side c).val
    ∧ ((Layout.meshBlock [2, 2, 2] ![[1], [], []] c : (b : Fin 3) → _) 1).val = 0
    ∧ ((Layout.meshBlock [2, 2, 2] ![[1], [], []] c : (b : Fin 3) → _) 2).val = 0 := by decide

/-- A device's token, in the whole array. -/
def tok (c : Dev nD) (t : Fin 2048) : Fin 4096 := ⟨(side c).val * 2048 + t.val, by have := (side c).isLt; have := t.isLt; omega⟩

/-- A device's expert, among all. -/
def exp (c : Dev nD) (e : Fin 4) : Fin 8 := ⟨(side c).val * 4 + e.val, by have := (side c).isLt; have := e.isLt; omega⟩

theorem blk2 {α : Type} (c : Dev nD) (v : (⟨2, ![4096, 1024]⟩ : Shape).Idx → α)
    (h : Layout.TilesN ⟨2, ![2048, 1024]⟩ ⟨2, ![4096, 1024]⟩ _) (t : Fin 2048) (d : Fin 1024) :
    Layout.blockN ⟨2, ![2048, 1024]⟩ ⟨2, ![4096, 1024]⟩ (Layout.meshBlock [2, 2, 2] ![[1], []] c) v h (ix2 t d) = v (ix2 (tok c t) d) := by
  rw [Layout.blockN_apply]
  congr 1
  funext b
  obtain ⟨h0, h1⟩ := mesh2 c
  match b with
  | ⟨0, _⟩ => exact Fin.ext (by rw [Layout.TilesN.idx_val]; exact congrArg (· * 2048 + t.val) h0)
  | ⟨1, _⟩ => exact Fin.ext (by rw [Layout.TilesN.idx_val]; exact (congrArg (· * 1024 + d.val) h1).trans (by show 0 * 1024 + d.val = d.val; omega))

theorem blk1 {α : Type} (c : Dev nD) (v : (⟨1, ![4096]⟩ : Shape).Idx → α)
    (h : Layout.TilesN ⟨1, ![2048]⟩ ⟨1, ![4096]⟩ _) (t : Fin 2048) :
    Layout.blockN ⟨1, ![2048]⟩ ⟨1, ![4096]⟩ (Layout.meshBlock [2, 2, 2] ![[1]] c) v h (ix1 t) = v (ix1 (tok c t)) := by
  rw [Layout.blockN_apply]
  congr 1
  funext b
  match b with
  | ⟨0, _⟩ => exact Fin.ext (by rw [Layout.TilesN.idx_val]; exact congrArg (· * 2048 + t.val) (mesh1 c))

theorem blk3 {α : Type} (p q : ℕ) (c : Dev nD) (v : (⟨3, ![8, p, q]⟩ : Shape).Idx → α)
    (h : Layout.TilesN ⟨3, ![4, p, q]⟩ ⟨3, ![8, p, q]⟩ _) (e : Fin 4) (i : Fin p) (j : Fin q) :
    Layout.blockN ⟨3, ![4, p, q]⟩ ⟨3, ![8, p, q]⟩ (Layout.meshBlock [2, 2, 2] ![[1], [], []] c) v h (ix3 e i j) = v (ix3 (exp c e) i j) := by
  rw [Layout.blockN_apply]
  congr 1
  funext b
  obtain ⟨h0, h1, h2⟩ := mesh3 c
  match b with
  | ⟨0, _⟩ => exact Fin.ext (by rw [Layout.TilesN.idx_val]; exact congrArg (· * 4 + e.val) h0)
  | ⟨1, _⟩ => exact Fin.ext (by rw [Layout.TilesN.idx_val]; exact (congrArg (· * p + i.val) h1).trans (by show 0 * p + i.val = i.val; omega))
  | ⟨2, _⟩ => exact Fin.ext (by rw [Layout.TilesN.idx_val]; exact (congrArg (· * q + j.val) h2).trans (by show 0 * q + j.val = j.val; omega))

variable (m : (ℓ : Loc nD τ sig) → Buf (Elt Ideal) ℓ)

theorem asg_at (c : Dev nD) (t : Fin 2048) : asg (aOf m c) t = (m ((c : Thread nD τ).loc main_arg1) : IVec S2048 32) (ix1 t) := by
  have h : aOf m c = shapeCast S1x2048 (m ((c : Thread nD τ).loc main_arg1) : IVec S2048 32) shapeCasts_S2048_S1x2048 := by
    show StableHlo.after hostOps0 (fun b => m (c, b)) (Proc.devRef .tc main_v1) = _
    simp only [StableHlo.after_cons, StableHlo.after_nil]
    rw [StableHlo.reshape_result]
    rfl
  unfold asg
  rw [h]
  pointwise

/-- The devices' arrays are the blocks of whole arrays. -/
structure Cut (X : FVec Ideal ⟨2, ![4096, 1024]⟩ .f32) (A : IVec ⟨1, ![4096]⟩ 32) (W1 : FVec Ideal ⟨3, ![8, 1024, 2048]⟩ .f32)
    (W2 : FVec Ideal ⟨3, ![8, 2048, 1024]⟩ .f32) : Prop where
  fits (c : Dev nD) : Fits (asg (aOf m c))
  x (c : Dev nD) (t : Fin 2048) (d : Fin 1024) : xOf m c (ix2 t d) = X (ix2 (tok c t) d)
  a (c : Dev nD) (t : Fin 2048) : asg (aOf m c) t = A (ix1 (tok c t))
  w1 (c : Dev nD) (e : Fin 4) (i : Fin 1024) (j : Fin 2048) : w1Of m c (ix3 e i j) = W1 (ix3 (exp c e) i j)
  w2 (c : Dev nD) (e : Fin 4) (i : Fin 2048) (j : Fin 1024) : w2Of m c (ix3 e i j) = W2 (ix3 (exp c e) i j)

theorem exp_own (c : Dev nD) (e : Fin 8) (h : e.val / 4 = (side c).val) : exp c ⟨e.val % 4, Nat.mod_lt _ (by decide)⟩ = e :=
  Fin.ext (by show (side c).val * 4 + e.val % 4 = e.val; omega)

theorem exp_peer (c : Dev nD) (e : Fin 8) (h : ¬ e.val / 4 = (side c).val) : exp (peer c) ⟨e.val % 4, Nat.mod_lt _ (by decide)⟩ = e :=
  Fin.ext (by
    show (side (peer c)).val * 4 + e.val % 4 = e.val
    have := side_peer c
    have := (side c).isLt
    have := e.isLt
    omega)

/-- Each device's output block is its block of the reference's array. -/
theorem outOf_eq {X A W1 W2} (h : Cut m X A W1 W2) (c : Dev nD)
    (ht : Layout.TilesN ⟨2, ![2048, 1024]⟩ ⟨2, ![4096, 1024]⟩ _) :
    outOf m c = Layout.blockN ⟨2, ![2048, 1024]⟩ ⟨2, ![4096, 1024]⟩ (Layout.meshBlock [2, 2, 2] ![[1], []] c)
      (Cert.ReferenceIdeal.Moe.whole X A W1 W2) ht := by
  funext j
  idx_vars j
  rename' j0 => t, j1 => d
  rw [blk2]
  obtain ⟨e, he⟩ := (h.fits c).named t
  rw [Cert.ReferenceIdeal.Moe.whole_at X A W1 W2 (tok c t) e ((h.a c t).symm.trans he)]
  unfold outOf mineOf retOf sentOf
  rw [peer_peer, myWord_eq, out_at (side c) (aOf m c) (h.fits c) (xOf m c) (w1Of m c) (w1Of m (peer c)) (w2Of m c) (w2Of m (peer c)) t e he]
  congr 1
  · funext k
    exact h.x c t k
  · funext k f
    split
    · rw [h.w1, exp_own c e (by assumption)]
    · rw [h.w1, exp_peer c e (by assumption)]
  · funext f d
    split
    · rw [h.w2, exp_own c e (by assumption)]
    · rw [h.w2, exp_peer c e (by assumption)]

end Cert.KernelIdeal.Moe

end
-- ==== Proof.lean ====
/- The certificate of the mixture exchange kernel. Each program's frame is its run (Proof/Kernel/Run.lean,
   Proof/KernelIdeal/Run.lean, Proof/Gen/ReferenceIdeal/Run.lean) with the results dropped. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_within_capacity_KernelIdeal
public import proofs.«01_k».proof.Proof.Gen.Pre_within_capacity_ReferenceIdeal
public import proofs.«01_k».proof.Proof.KernelIdeal.Run
public import proofs.«01_k».proof.Proof.Kernel.Run
public import proofs.«01_k».proof.Proof.Value.Whole
public import Idealize.ShloMosaic.Adequacy
public import Idealize.ShloMosaic.Lib.Quiescent
public import Idealize.ShloMosaic.Init

@[expose] public section

noncomputable section

namespace Cert.Proof

open Idealize.ShloMosaic Idealize.SL.Sem

/-- The kernel's frame at the machine's floats. -/
theorem frame_k : Cert.quiescent_Kernel (hKernel := Cert.Kernel.Gen.facts) := fun m g _ =>
  (θ_run _ _ _).mono (fun _ h => ⟨fun c => (h.1 c).2, h.2⟩) (Cert.Kernel.Moe.run_main (F := Bits) m g)

/-- The kernel's frame on extended reals. -/
theorem frame_ki : Cert.quiescent_KernelIdeal (hKernelIdeal := Cert.KernelIdeal.Gen.facts) := fun m g _ =>
  (θ_run _ _ _).mono (fun _ h => ⟨fun c => (h.1 c).2, h.2⟩) (Cert.KernelIdeal.Moe.run_main (F := Ideal) m g)

/-- The reference's frame: a host program without semaphores. -/
theorem frame_ri : Cert.quiescent_ReferenceIdeal (hReferenceIdeal := Cert.ReferenceIdeal.Gen.facts) := fun m g _ =>
  (θ_run _ _ _).mono (fun r h => ⟨fun c => (h c).2, sem_eq_zero_of_no_sems rfl r.2⟩)
    (Cert.ReferenceIdeal.Value.run (F := Ideal) m g)

/-- What the claim assumes of the inputs: the devices' arrays are blocks of the reference's, within capacity. -/
theorem cut_of (m : (ℓ : Loc Cert.KernelIdeal.nD Cert.KernelIdeal.τ Cert.KernelIdeal.sig) → Buf (Elt Ideal) ℓ)
    (X : FVec Ideal ⟨2, ![4096, 1024]⟩ .f32) (A : IVec ⟨1, ![4096]⟩ 32) (W1 : FVec Ideal ⟨3, ![8, 1024, 2048]⟩ .f32)
    (W2 : FVec Ideal ⟨3, ![8, 2048, 1024]⟩ .f32)
    (hp : Cert.Pre_KernelIdeal_within_capacity_KernelIdeal (hPre_within_capacity_KernelIdeal := Cert.Pre_within_capacity_KernelIdeal.Gen.facts) m)
    (hx : ∀ c : Dev Cert.KernelIdeal.nD, m ((c.tc : Thread Cert.KernelIdeal.nD Cert.KernelIdeal.τ).loc Cert.KernelIdeal.main_arg0)
        = Layout.blockN ⟨2, ![2048, 1024]⟩ ⟨2, ![4096, 1024]⟩ (Layout.meshBlock [2, 2, 2] ![[1], []] c) X
      ∧ m ((c.tc : Thread Cert.KernelIdeal.nD Cert.KernelIdeal.τ).loc Cert.KernelIdeal.main_arg1)
        = Layout.blockN ⟨1, ![2048]⟩ ⟨1, ![4096]⟩ (Layout.meshBlock [2, 2, 2] ![[1]] c) A
      ∧ m ((c.tc : Thread Cert.KernelIdeal.nD Cert.KernelIdeal.τ).loc Cert.KernelIdeal.main_arg2)
        = Layout.blockN ⟨3, ![4, 1024, 2048]⟩ ⟨3, ![8, 1024, 2048]⟩ (Layout.meshBlock [2, 2, 2] ![[1], [], []] c) W1
      ∧ m ((c.tc : Thread Cert.KernelIdeal.nD Cert.KernelIdeal.τ).loc Cert.KernelIdeal.main_arg3)
        = Layout.blockN ⟨3, ![4, 2048, 1024]⟩ ⟨3, ![8, 2048, 1024]⟩ (Layout.meshBlock [2, 2, 2] ![[1], [], []] c) W2) :
    Cert.KernelIdeal.Moe.Cut m X A W1 W2 where
  fits c := by
    have h := Cert.KernelIdeal.Moe.pre_at _ _ _ _ (hp c)
    have e : Cert.KernelIdeal.Moe.asg (Cert.KernelIdeal.Moe.aOf m c) = _ := funext fun t => Cert.KernelIdeal.Moe.asg_at m c t
    rw [e]
    exact ⟨h.1, h.2⟩
  x c t d := (congrFun ((Cert.KernelIdeal.Gen.V_main_arg0 m c).trans (hx c).1) (ix2 t d)).trans (Cert.KernelIdeal.Moe.blk2 c X _ t d)
  a c t := (Cert.KernelIdeal.Moe.asg_at m c t).trans ((congrFun (hx c).2.1 (ix1 t)).trans (Cert.KernelIdeal.Moe.blk1 c A _ t))
  w1 c e i j := (congrFun ((Cert.KernelIdeal.Gen.V_main_arg2 m c).trans (hx c).2.2.1) (ix3 e i j)).trans (Cert.KernelIdeal.Moe.blk3 _ _ c W1 _ e i j)
  w2 c e i j := (congrFun ((Cert.KernelIdeal.Gen.V_main_arg3 m c).trans (hx c).2.2.2) (ix3 e i j)).trans (Cert.KernelIdeal.Moe.blk3 _ _ c W2 _ e i j)

/-- The kernel computes the reference, within capacity. -/
theorem alg : Cert.algebraic_KernelIdeal_ReferenceIdeal_pre_within_capacity_KernelIdeal (hKernelIdeal := Cert.KernelIdeal.Gen.facts)
    (hReferenceIdeal := Cert.ReferenceIdeal.Gen.facts) (hPre_within_capacity_KernelIdeal := Cert.Pre_within_capacity_KernelIdeal.Gen.facts) :=
  fun m g m' g' hp hx =>
    have hc := cut_of m _ _ _ _ hp hx
    ⟨Cert.ReferenceIdeal.Value.res_main_v96 m' 0,
      (θ_run _ _ _).mono (fun _ h c => ⟨(h.1 c).1.trans (Cert.KernelIdeal.Moe.outOf_eq m hc c _), (h.1 c).2⟩) (Cert.KernelIdeal.Moe.run_main (F := Ideal) m g),
      (θ_run _ _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, Cert.Pre_within_capacity_KernelIdeal.Gen.facts,
    Cert.Pre_within_capacity_ReferenceIdeal.Gen.facts, frame_k, frame_ki, fun m g _ => frame_ki m g trivial, frame_ri,
    fun m g _ => frame_ri m g trivial, trivial, alg⟩

end Cert.Proof

end
